-- ==== Defs.lean ====
def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def Pre_Factor (m : (ℓ : Loc Cert.Factor.nD Cert.Factor.τ Cert.Factor.sig) → Buf (Elt Bits) ℓ) : Prop :=
  True

def Pre_FactorIdeal (m : (ℓ : Loc Cert.FactorIdeal.nD Cert.FactorIdeal.τ Cert.FactorIdeal.sig) → Buf (Elt Ideal) ℓ) : Prop :=
  True

def Pre_FactorReferenceIdeal (m : (ℓ : Loc Cert.FactorReferenceIdeal.nD Cert.FactorReferenceIdeal.τ Cert.FactorReferenceIdeal.sig) → Buf (Elt Ideal) ℓ) : Prop :=
  True

def Pre_Whiten (m : (ℓ : Loc Cert.Whiten.nD Cert.Whiten.τ Cert.Whiten.sig) → Buf (Elt Bits) ℓ) : Prop :=
  True

def Pre_WhitenIdeal (m : (ℓ : Loc Cert.WhitenIdeal.nD Cert.WhitenIdeal.τ Cert.WhitenIdeal.sig) → Buf (Elt Ideal) ℓ) : Prop :=
  True

def Pre_WhitenIdeal_triangular [hPre_triangular : Cert.Pre_triangular.Facts] (m : (ℓ : Loc Cert.WhitenIdeal.nD Cert.WhitenIdeal.τ Cert.WhitenIdeal.sig) → Buf (Elt Ideal) ℓ) : Prop :=
  ∀ c : Dev Cert.WhitenIdeal.nD,
    (Cert.Pre_triangular.fn (F := Ideal) (m ((c.tc : Thread Cert.WhitenIdeal.nD Cert.WhitenIdeal.τ).loc Cert.WhitenIdeal.main_arg0)) (m ((c.tc : Thread Cert.WhitenIdeal.nD Cert.WhitenIdeal.τ).loc Cert.WhitenIdeal.main_arg1)) (m ((c.tc : Thread Cert.WhitenIdeal.nD Cert.WhitenIdeal.τ).loc Cert.WhitenIdeal.main_arg2))) = (fun _ => 1#1)

def Pre_WhitenReferenceIdeal (m : (ℓ : Loc Cert.WhitenReferenceIdeal.nD Cert.WhitenReferenceIdeal.τ Cert.WhitenReferenceIdeal.sig) → Buf (Elt Ideal) ℓ) : Prop :=
  True

def Pre_WhitenReferenceIdeal_triangular [hPre_triangular : Cert.Pre_triangular.Facts] (m : (ℓ : Loc Cert.WhitenReferenceIdeal.nD Cert.WhitenReferenceIdeal.τ Cert.WhitenReferenceIdeal.sig) → Buf (Elt Ideal) ℓ) : Prop :=
  ∀ c : Dev Cert.WhitenReferenceIdeal.nD,
    (Cert.Pre_triangular.fn (F := Ideal) (m ((c.tc : Thread Cert.WhitenReferenceIdeal.nD Cert.WhitenReferenceIdeal.τ).loc Cert.WhitenReferenceIdeal.main_arg0)) (m ((c.tc : Thread Cert.WhitenReferenceIdeal.nD Cert.WhitenReferenceIdeal.τ).loc Cert.WhitenReferenceIdeal.main_arg1)) (m ((c.tc : Thread Cert.WhitenReferenceIdeal.nD Cert.WhitenReferenceIdeal.τ).loc Cert.WhitenReferenceIdeal.main_arg2))) = (fun _ => 1#1)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0))
      ∧ r.2.sem = fun _ => 0)

def quiescent_Factor [hFactor : Cert.Factor.Facts] : Prop :=
  ∀ (m : (ℓ : Loc Cert.Factor.nD Cert.Factor.τ Cert.Factor.sig) → Buf (Elt Bits) ℓ) (g : Dev Cert.Factor.nD → PrngReg), Pre_Factor m →
    θ_run (Cert.Factor.defs (F := Bits)) (onTc (τ := Cert.Factor.τ) (Cert.Factor.main (F := Bits))) ⟨m, fun _ => 0, g⟩ (fun r => (∀ c : Dev Cert.Factor.nD,
      r.2.mem ((c.tc : Thread Cert.Factor.nD Cert.Factor.τ).loc Cert.Factor.main_arg0) = m ((c.tc : Thread Cert.Factor.nD Cert.Factor.τ).loc Cert.Factor.main_arg0)
      ∧ r.2.mem ((c.tc : Thread Cert.Factor.nD Cert.Factor.τ).loc Cert.Factor.main_arg1) = m ((c.tc : Thread Cert.Factor.nD Cert.Factor.τ).loc Cert.Factor.main_arg1)
      ∧ r.2.mem ((c.tc : Thread Cert.Factor.nD Cert.Factor.τ).loc Cert.Factor.main_arg2) = m ((c.tc : Thread Cert.Factor.nD Cert.Factor.τ).loc Cert.Factor.main_arg2)
      ∧ r.2.mem ((c.tc : Thread Cert.Factor.nD Cert.Factor.τ).loc Cert.Factor.main_arg3) = m ((c.tc : Thread Cert.Factor.nD Cert.Factor.τ).loc Cert.Factor.main_arg3)
      ∧ r.2.mem ((c.tc : Thread Cert.Factor.nD Cert.Factor.τ).loc Cert.Factor.main_arg4) = m ((c.tc : Thread Cert.Factor.nD Cert.Factor.τ).loc Cert.Factor.main_arg4))
      ∧ r.2.sem = fun _ => 0)

def quiescent_FactorIdeal [hFactorIdeal : Cert.FactorIdeal.Facts] : Prop :=
  ∀ (m : (ℓ : Loc Cert.FactorIdeal.nD Cert.FactorIdeal.τ Cert.FactorIdeal.sig) → Buf (Elt Ideal) ℓ) (g : Dev Cert.FactorIdeal.nD → PrngReg), Pre_FactorIdeal m →
    θ_run (Cert.FactorIdeal.defs (F := Ideal)) (onTc (τ := Cert.FactorIdeal.τ) (Cert.FactorIdeal.main (F := Ideal))) ⟨m, fun _ => 0, g⟩ (fun r => (∀ c : Dev Cert.FactorIdeal.nD,
      r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
      ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1)
      ∧ r.2.mem ((c.tc : Thread Cert.FactorIdeal.nD Cert.FactorIdeal.τ).loc Cert.FactorIdeal.main_arg2) = m ((c.tc : Thread Cert.FactorIdeal.nD Cert.FactorIdeal.τ).loc Cert.FactorIdeal.main_arg2)
      ∧ r.2.mem ((c.tc : Thread Cert.FactorIdeal.nD Cert.FactorIdeal.τ).loc Cert.FactorIdeal.main_arg3) = m ((c.tc : Thread Cert.FactorIdeal.nD Cert.FactorIdeal.τ).loc Cert.FactorIdeal.main_arg3)
      ∧ r.2.mem ((c.tc : Thread Cert.FactorIdeal.nD Cert.FactorIdeal.τ).loc Cert.FactorIdeal.main_arg4) = m ((c.tc : Thread Cert.FactorIdeal.nD Cert.FactorIdeal.τ).loc Cert.FactorIdeal.main_arg4))
      ∧ r.2.sem = fun _ => 0)

def quiescent_FactorReferenceIdeal [hFactorReferenceIdeal : Cert.FactorReferenceIdeal.Facts] : Prop :=
  ∀ (m : (ℓ : Loc Cert.FactorReferenceIdeal.nD Cert.FactorReferenceIdeal.τ Cert.FactorReferenceIdeal.sig) → Buf (Elt Ideal) ℓ) (g : Dev Cert.FactorReferenceIdeal.nD → PrngReg), Pre_FactorReferenceIdeal m →
    θ_run (Cert.FactorReferenceIdeal.defs (F := Ideal)) (onTc (τ := Cert.FactorReferenceIdeal.τ) (Cert.FactorReferenceIdeal.main (F := Ideal))) ⟨m, fun _ => 0, g⟩ (fun r => (∀ c : Dev Cert.FactorReferenceIdeal.nD,
      r.2.mem ((c.tc : Thread Cert.FactorReferenceIdeal.nD Cert.FactorReferenceIdeal.τ).loc Cert.FactorReferenceIdeal.main_arg0) = m ((c.tc : Thread Cert.FactorReferenceIdeal.nD Cert.FactorReferenceIdeal.τ).loc Cert.FactorReferenceIdeal.main_arg0)
      ∧ r.2.mem ((c.tc : Thread Cert.FactorReferenceIdeal.nD Cert.FactorReferenceIdeal.τ).loc Cert.FactorReferenceIdeal.main_arg1) = m ((c.tc : Thread Cert.FactorReferenceIdeal.nD Cert.FactorReferenceIdeal.τ).loc Cert.FactorReferenceIdeal.main_arg1)
      ∧ r.2.mem ((c.tc : Thread Cert.FactorReferenceIdeal.nD Cert.FactorReferenceIdeal.τ).loc Cert.FactorReferenceIdeal.main_arg2) = m ((c.tc : Thread Cert.FactorReferenceIdeal.nD Cert.FactorReferenceIdeal.τ).loc Cert.FactorReferenceIdeal.main_arg2)
      ∧ r.2.mem ((c.tc : Thread Cert.FactorReferenceIdeal.nD Cert.FactorReferenceIdeal.τ).loc Cert.FactorReferenceIdeal.main_arg3) = m ((c.tc : Thread Cert.FactorReferenceIdeal.nD Cert.FactorReferenceIdeal.τ).loc Cert.FactorReferenceIdeal.main_arg3)
      ∧ r.2.mem ((c.tc : Thread Cert.FactorReferenceIdeal.nD Cert.FactorReferenceIdeal.τ).loc Cert.FactorReferenceIdeal.main_arg4) = m ((c.tc : Thread Cert.FactorReferenceIdeal.nD Cert.FactorReferenceIdeal.τ).loc Cert.FactorReferenceIdeal.main_arg4))
      ∧ r.2.sem = fun _ => 0)

def quiescent_Whiten [hWhiten : Cert.Whiten.Facts] : Prop :=
  ∀ (m : (ℓ : Loc Cert.Whiten.nD Cert.Whiten.τ Cert.Whiten.sig) → Buf (Elt Bits) ℓ) (g : Dev Cert.Whiten.nD → PrngReg), Pre_Whiten m →
    θ_run (Cert.Whiten.defs (F := Bits)) (onTc (τ := Cert.Whiten.τ) (Cert.Whiten.main (F := Bits))) ⟨m, fun _ => 0, g⟩ (fun r => (∀ c : Dev Cert.Whiten.nD,
      r.2.mem ((c.tc : Thread Cert.Whiten.nD Cert.Whiten.τ).loc Cert.Whiten.main_arg0) = m ((c.tc : Thread Cert.Whiten.nD Cert.Whiten.τ).loc Cert.Whiten.main_arg0)
      ∧ r.2.mem ((c.tc : Thread Cert.Whiten.nD Cert.Whiten.τ).loc Cert.Whiten.main_arg1) = m ((c.tc : Thread Cert.Whiten.nD Cert.Whiten.τ).loc Cert.Whiten.main_arg1)
      ∧ r.2.mem ((c.tc : Thread Cert.Whiten.nD Cert.Whiten.τ).loc Cert.Whiten.main_arg2) = m ((c.tc : Thread Cert.Whiten.nD Cert.Whiten.τ).loc Cert.Whiten.main_arg2))
      ∧ r.2.sem = fun _ => 0)

def quiescent_WhitenIdeal [hWhitenIdeal : Cert.WhitenIdeal.Facts] : Prop :=
  ∀ (m : (ℓ : Loc Cert.WhitenIdeal.nD Cert.WhitenIdeal.τ Cert.WhitenIdeal.sig) → Buf (Elt Ideal) ℓ) (g : Dev Cert.WhitenIdeal.nD → PrngReg), Pre_WhitenIdeal m →
    θ_run (Cert.WhitenIdeal.defs (F := Ideal)) (onTc (τ := Cert.WhitenIdeal.τ) (Cert.WhitenIdeal.main (F := Ideal))) ⟨m, fun _ => 0, g⟩ (fun r => (∀ c : Dev Cert.WhitenIdeal.nD,
      r.2.mem ((c.tc : Thread Cert.WhitenIdeal.nD Cert.WhitenIdeal.τ).loc Cert.WhitenIdeal.main_arg0) = m ((c.tc : Thread Cert.WhitenIdeal.nD Cert.WhitenIdeal.τ).loc Cert.WhitenIdeal.main_arg0)
      ∧ r.2.mem ((c.tc : Thread Cert.WhitenIdeal.nD Cert.WhitenIdeal.τ).loc Cert.WhitenIdeal.main_arg1) = m ((c.tc : Thread Cert.WhitenIdeal.nD Cert.WhitenIdeal.τ).loc Cert.WhitenIdeal.main_arg1)
      ∧ r.2.mem ((c.tc : Thread Cert.WhitenIdeal.nD Cert.WhitenIdeal.τ).loc Cert.WhitenIdeal.main_arg2) = m ((c.tc : Thread Cert.WhitenIdeal.nD Cert.WhitenIdeal.τ).loc Cert.WhitenIdeal.main_arg2))
      ∧ r.2.sem = fun _ => 0)

def quiescent_WhitenIdeal_pre_triangular [hWhitenIdeal : Cert.WhitenIdeal.Facts] [hPre_triangular : Cert.Pre_triangular.Facts] : Prop :=
  ∀ (m : (ℓ : Loc Cert.WhitenIdeal.nD Cert.WhitenIdeal.τ Cert.WhitenIdeal.sig) → Buf (Elt Ideal) ℓ) (g : Dev Cert.WhitenIdeal.nD → PrngReg), Pre_WhitenIdeal_triangular m →
    θ_run (Cert.WhitenIdeal.defs (F := Ideal)) (onTc (τ := Cert.WhitenIdeal.τ) (Cert.WhitenIdeal.main (F := Ideal))) ⟨m, fun _ => 0, g⟩ (fun r => (∀ c : Dev Cert.WhitenIdeal.nD,
      r.2.mem ((c.tc : Thread Cert.WhitenIdeal.nD Cert.WhitenIdeal.τ).loc Cert.WhitenIdeal.main_arg0) = m ((c.tc : Thread Cert.WhitenIdeal.nD Cert.WhitenIdeal.τ).loc Cert.WhitenIdeal.main_arg0)
      ∧ r.2.mem ((c.tc : Thread Cert.WhitenIdeal.nD Cert.WhitenIdeal.τ).loc Cert.WhitenIdeal.main_arg1) = m ((c.tc : Thread Cert.WhitenIdeal.nD Cert.WhitenIdeal.τ).loc Cert.WhitenIdeal.main_arg1)
      ∧ r.2.mem ((c.tc : Thread Cert.WhitenIdeal.nD Cert.WhitenIdeal.τ).loc Cert.WhitenIdeal.main_arg2) = m ((c.tc : Thread Cert.WhitenIdeal.nD Cert.WhitenIdeal.τ).loc Cert.WhitenIdeal.main_arg2))
      ∧ r.2.sem = fun _ => 0)

def quiescent_WhitenReferenceIdeal [hWhitenReferenceIdeal : Cert.WhitenReferenceIdeal.Facts] : Prop :=
  ∀ (m : (ℓ : Loc Cert.WhitenReferenceIdeal.nD Cert.WhitenReferenceIdeal.τ Cert.WhitenReferenceIdeal.sig) → Buf (Elt Ideal) ℓ) (g : Dev Cert.WhitenReferenceIdeal.nD → PrngReg), Pre_WhitenReferenceIdeal m →
    θ_run (Cert.WhitenReferenceIdeal.defs (F := Ideal)) (onTc (τ := Cert.WhitenReferenceIdeal.τ) (Cert.WhitenReferenceIdeal.main (F := Ideal))) ⟨m, fun _ => 0, g⟩ (fun r => (∀ c : Dev Cert.WhitenReferenceIdeal.nD,
      r.2.mem ((c.tc : Thread Cert.WhitenReferenceIdeal.nD Cert.WhitenReferenceIdeal.τ).loc Cert.WhitenReferenceIdeal.main_arg0) = m ((c.tc : Thread Cert.WhitenReferenceIdeal.nD Cert.WhitenReferenceIdeal.τ).loc Cert.WhitenReferenceIdeal.main_arg0)
      ∧ r.2.mem ((c.tc : Thread Cert.WhitenReferenceIdeal.nD Cert.WhitenReferenceIdeal.τ).loc Cert.WhitenReferenceIdeal.main_arg1) = m ((c.tc : Thread Cert.WhitenReferenceIdeal.nD Cert.WhitenReferenceIdeal.τ).loc Cert.WhitenReferenceIdeal.main_arg1)
      ∧ r.2.mem ((c.tc : Thread Cert.WhitenReferenceIdeal.nD Cert.WhitenReferenceIdeal.τ).loc Cert.WhitenReferenceIdeal.main_arg2) = m ((c.tc : Thread Cert.WhitenReferenceIdeal.nD Cert.WhitenReferenceIdeal.τ).loc Cert.WhitenReferenceIdeal.main_arg2))
      ∧ r.2.sem = fun _ => 0)

def quiescent_WhitenReferenceIdeal_pre_triangular [hWhitenReferenceIdeal : Cert.WhitenReferenceIdeal.Facts] [hPre_triangular : Cert.Pre_triangular.Facts] : Prop :=
  ∀ (m : (ℓ : Loc Cert.WhitenReferenceIdeal.nD Cert.WhitenReferenceIdeal.τ Cert.WhitenReferenceIdeal.sig) → Buf (Elt Ideal) ℓ) (g : Dev Cert.WhitenReferenceIdeal.nD → PrngReg), Pre_WhitenReferenceIdeal_triangular m →
    θ_run (Cert.WhitenReferenceIdeal.defs (F := Ideal)) (onTc (τ := Cert.WhitenReferenceIdeal.τ) (Cert.WhitenReferenceIdeal.main (F := Ideal))) ⟨m, fun _ => 0, g⟩ (fun r => (∀ c : Dev Cert.WhitenReferenceIdeal.nD,
      r.2.mem ((c.tc : Thread Cert.WhitenReferenceIdeal.nD Cert.WhitenReferenceIdeal.τ).loc Cert.WhitenReferenceIdeal.main_arg0) = m ((c.tc : Thread Cert.WhitenReferenceIdeal.nD Cert.WhitenReferenceIdeal.τ).loc Cert.WhitenReferenceIdeal.main_arg0)
      ∧ r.2.mem ((c.tc : Thread Cert.WhitenReferenceIdeal.nD Cert.WhitenReferenceIdeal.τ).loc Cert.WhitenReferenceIdeal.main_arg1) = m ((c.tc : Thread Cert.WhitenReferenceIdeal.nD Cert.WhitenReferenceIdeal.τ).loc Cert.WhitenReferenceIdeal.main_arg1)
      ∧ r.2.mem ((c.tc : Thread Cert.WhitenReferenceIdeal.nD Cert.WhitenReferenceIdeal.τ).loc Cert.WhitenReferenceIdeal.main_arg2) = m ((c.tc : Thread Cert.WhitenReferenceIdeal.nD Cert.WhitenReferenceIdeal.τ).loc Cert.WhitenReferenceIdeal.main_arg2))
      ∧ r.2.sem = fun _ => 0)

def preserves_Stats_StatsIdeal : Prop :=
  True

def algebraic_StatsIdeal_StatsReferenceIdeal_on_written [hStatsIdeal : Cert.StatsIdeal.Facts] [hStatsReferenceIdeal : Cert.StatsReferenceIdeal.Facts] [hOn_written : Cert.On_written.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          (∀ i : (⟨3, ![2, 32, 128]⟩ : Shape).Idx, (Cert.On_written.fn (F := Ideal) (m ((c.tc : Thread Cert.StatsIdeal.nD Cert.StatsIdeal.τ).loc Cert.StatsIdeal.main_arg0))).1 i = 1#1 → r.2.mem ((c.tc : Thread Cert.StatsIdeal.nD Cert.StatsIdeal.τ).loc Cert.StatsIdeal.main_v0_0) i = v0 c i)
          ∧ (∀ i : (⟨4, ![2, 32, 32, 128]⟩ : Shape).Idx, (Cert.On_written.fn (F := Ideal) (m ((c.tc : Thread Cert.StatsIdeal.nD Cert.StatsIdeal.τ).loc Cert.StatsIdeal.main_arg0))).2 i = 1#1 → r.2.mem ((c.tc : Thread Cert.StatsIdeal.nD Cert.StatsIdeal.τ).loc Cert.StatsIdeal.main_v0_1) i = v1 c i)
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          (∀ i : (⟨3, ![2, 32, 128]⟩ : Shape).Idx, (Cert.On_written.fn (F := Ideal) (m ((c.tc : Thread Cert.StatsIdeal.nD Cert.StatsIdeal.τ).loc Cert.StatsIdeal.main_arg0))).1 i = 1#1 → r.2.mem ((c.tc : Thread Cert.StatsReferenceIdeal.nD Cert.StatsReferenceIdeal.τ).loc Cert.StatsReferenceIdeal.main_v1) i = v0 c i)
          ∧ (∀ i : (⟨4, ![2, 32, 32, 128]⟩ : Shape).Idx, (Cert.On_written.fn (F := Ideal) (m ((c.tc : Thread Cert.StatsIdeal.nD Cert.StatsIdeal.τ).loc Cert.StatsIdeal.main_arg0))).2 i = 1#1 → r.2.mem ((c.tc : Thread Cert.StatsReferenceIdeal.nD Cert.StatsReferenceIdeal.τ).loc Cert.StatsReferenceIdeal.main_v3) i = v1 c i)
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0))

def preserves_Factor_FactorIdeal : Prop :=
  True

def algebraic_FactorIdeal_FactorReferenceIdeal [hFactorIdeal : Cert.FactorIdeal.Facts] [hFactorReferenceIdeal : Cert.FactorReferenceIdeal.Facts] : Prop :=
  ∀ (m : (ℓ : Loc Cert.FactorIdeal.nD Cert.FactorIdeal.τ Cert.FactorIdeal.sig) → Buf (Elt Ideal) ℓ) (g : Dev Cert.FactorIdeal.nD → PrngReg)
    (m' : (ℓ : Loc Cert.FactorReferenceIdeal.nD Cert.FactorReferenceIdeal.τ Cert.FactorReferenceIdeal.sig) → Buf (Elt Ideal) ℓ) (g' : Dev Cert.FactorReferenceIdeal.nD → PrngReg), Pre_FactorIdeal m →
    (∀ c : Dev Cert.FactorIdeal.nD,
      m' ((c.tc : Thread Cert.FactorReferenceIdeal.nD Cert.FactorReferenceIdeal.τ).loc Cert.FactorReferenceIdeal.main_arg0) = m ((c.tc : Thread Cert.FactorIdeal.nD Cert.FactorIdeal.τ).loc Cert.FactorIdeal.main_arg0)
      ∧ m' ((c.tc : Thread Cert.FactorReferenceIdeal.nD Cert.FactorReferenceIdeal.τ).loc Cert.FactorReferenceIdeal.main_arg1) = m ((c.tc : Thread Cert.FactorIdeal.nD Cert.FactorIdeal.τ).loc Cert.FactorIdeal.main_arg1)
      ∧ m' ((c.tc : Thread Cert.FactorReferenceIdeal.nD Cert.FactorReferenceIdeal.τ).loc Cert.FactorReferenceIdeal.main_arg2) = m ((c.tc : Thread Cert.FactorIdeal.nD Cert.FactorIdeal.τ).loc Cert.FactorIdeal.main_arg2)
      ∧ m' ((c.tc : Thread Cert.FactorReferenceIdeal.nD Cert.FactorReferenceIdeal.τ).loc Cert.FactorReferenceIdeal.main_arg3) = m ((c.tc : Thread Cert.FactorIdeal.nD Cert.FactorIdeal.τ).loc Cert.FactorIdeal.main_arg3)
      ∧ m' ((c.tc : Thread Cert.FactorReferenceIdeal.nD Cert.FactorReferenceIdeal.τ).loc Cert.FactorReferenceIdeal.main_arg4) = m ((c.tc : Thread Cert.FactorIdeal.nD Cert.FactorIdeal.τ).loc Cert.FactorIdeal.main_arg4)) →
    ∃ (v0 : (c : Dev Cert.FactorIdeal.nD) → Buf (Elt Ideal) ((c.tc : Thread Cert.FactorIdeal.nD Cert.FactorIdeal.τ).loc Cert.FactorIdeal.main_v1_0)) (v1 : (c : Dev Cert.FactorIdeal.nD) → Buf (Elt Ideal) ((c.tc : Thread Cert.FactorIdeal.nD Cert.FactorIdeal.τ).loc Cert.FactorIdeal.main_v1_1)) (v2 : (c : Dev Cert.FactorIdeal.nD) → Buf (Elt Ideal) ((c.tc : Thread Cert.FactorIdeal.nD Cert.FactorIdeal.τ).loc Cert.FactorIdeal.main_v1_2)),
      θ_run (Cert.FactorIdeal.defs (F := Ideal)) (onTc (τ := Cert.FactorIdeal.τ) (Cert.FactorIdeal.main (F := Ideal))) ⟨m, fun _ => 0, g⟩ (fun r => ∀ c : Dev Cert.FactorIdeal.nD,
          r.2.mem ((c.tc : Thread Cert.FactorIdeal.nD Cert.FactorIdeal.τ).loc Cert.FactorIdeal.main_v1_0) = v0 c
          ∧ r.2.mem ((c.tc : Thread Cert.FactorIdeal.nD Cert.FactorIdeal.τ).loc Cert.FactorIdeal.main_v1_1) = v1 c
          ∧ r.2.mem ((c.tc : Thread Cert.FactorIdeal.nD Cert.FactorIdeal.τ).loc Cert.FactorIdeal.main_v1_2) = v2 c
          ∧ r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0)
          ∧ r.2.mem ((c.tc : Thread Cert.FactorIdeal.nD Cert.FactorIdeal.τ).loc Cert.FactorIdeal.main_arg1) = m ((c.tc : Thread Cert.FactorIdeal.nD Cert.FactorIdeal.τ).loc Cert.FactorIdeal.main_arg1)
          ∧ r.2.mem ((c.tc : Thread Cert.FactorIdeal.nD Cert.FactorIdeal.τ).loc Cert.FactorIdeal.main_arg2) = m ((c.tc : Thread Cert.FactorIdeal.nD Cert.FactorIdeal.τ).loc Cert.FactorIdeal.main_arg2)
          ∧ r.2.mem ((c.tc : Thread Cert.FactorIdeal.nD Cert.FactorIdeal.τ).loc Cert.FactorIdeal.main_arg3) = m ((c.tc : Thread Cert.FactorIdeal.nD Cert.FactorIdeal.τ).loc Cert.FactorIdeal.main_arg3)
          ∧ r.2.mem ((c.tc : Thread Cert.FactorIdeal.nD Cert.FactorIdeal.τ).loc Cert.FactorIdeal.main_arg4) = m ((c.tc : Thread Cert.FactorIdeal.nD Cert.FactorIdeal.τ).loc Cert.FactorIdeal.main_arg4))
      ∧ θ_run (Cert.FactorReferenceIdeal.defs (F := Ideal)) (onTc (τ := Cert.FactorReferenceIdeal.τ) (Cert.FactorReferenceIdeal.main (F := Ideal))) ⟨m', fun _ => 0, g'⟩ (fun r => ∀ c : Dev Cert.FactorReferenceIdeal.nD,
          r.2.mem ((c.tc : Thread Cert.FactorReferenceIdeal.nD Cert.FactorReferenceIdeal.τ).loc Cert.FactorReferenceIdeal.main_v78) = v0 c
          ∧ r.2.mem ((c.tc : Thread Cert.FactorReferenceIdeal.nD Cert.FactorReferenceIdeal.τ).loc Cert.FactorReferenceIdeal.main_v77) = v1 c
          ∧ r.2.mem ((c.tc : Thread Cert.FactorReferenceIdeal.nD Cert.FactorReferenceIdeal.τ).loc Cert.FactorReferenceIdeal.main_v82) = v2 c
          ∧ r.2.mem ((c.tc : Thread Cert.FactorReferenceIdeal.nD Cert.FactorReferenceIdeal.τ).loc Cert.FactorReferenceIdeal.main_arg0) = m' ((c.tc : Thread Cert.FactorReferenceIdeal.nD Cert.FactorReferenceIdeal.τ).loc Cert.FactorReferenceIdeal.main_arg0)
          ∧ r.2.mem ((c.tc : Thread Cert.FactorReferenceIdeal.nD Cert.FactorReferenceIdeal.τ).loc Cert.FactorReferenceIdeal.main_arg1) = m' ((c.tc : Thread Cert.FactorReferenceIdeal.nD Cert.FactorReferenceIdeal.τ).loc Cert.FactorReferenceIdeal.main_arg1)
          ∧ r.2.mem ((c.tc : Thread Cert.FactorReferenceIdeal.nD Cert.FactorReferenceIdeal.τ).loc Cert.FactorReferenceIdeal.main_arg2) = m' ((c.tc : Thread Cert.FactorReferenceIdeal.nD Cert.FactorReferenceIdeal.τ).loc Cert.FactorReferenceIdeal.main_arg2)
          ∧ r.2.mem ((c.tc : Thread Cert.FactorReferenceIdeal.nD Cert.FactorReferenceIdeal.τ).loc Cert.FactorReferenceIdeal.main_arg3) = m' ((c.tc : Thread Cert.FactorReferenceIdeal.nD Cert.FactorReferenceIdeal.τ).loc Cert.FactorReferenceIdeal.main_arg3)
          ∧ r.2.mem ((c.tc : Thread Cert.FactorReferenceIdeal.nD Cert.FactorReferenceIdeal.τ).loc Cert.FactorReferenceIdeal.main_arg4) = m' ((c.tc : Thread Cert.FactorReferenceIdeal.nD Cert.FactorReferenceIdeal.τ).loc Cert.FactorReferenceIdeal.main_arg4))

def preserves_Whiten_WhitenIdeal : Prop :=
  True

def algebraic_WhitenIdeal_WhitenReferenceIdeal_pre_triangular [hWhitenIdeal : Cert.WhitenIdeal.Facts] [hWhitenReferenceIdeal : Cert.WhitenReferenceIdeal.Facts] [hPre_triangular : Cert.Pre_triangular.Facts] : Prop :=
  ∀ (m : (ℓ : Loc Cert.WhitenIdeal.nD Cert.WhitenIdeal.τ Cert.WhitenIdeal.sig) → Buf (Elt Ideal) ℓ) (g : Dev Cert.WhitenIdeal.nD → PrngReg)
    (m' : (ℓ : Loc Cert.WhitenReferenceIdeal.nD Cert.WhitenReferenceIdeal.τ Cert.WhitenReferenceIdeal.sig) → Buf (Elt Ideal) ℓ) (g' : Dev Cert.WhitenReferenceIdeal.nD → PrngReg), Pre_WhitenIdeal_triangular m →
    (∀ c : Dev Cert.WhitenIdeal.nD,
      m' ((c.tc : Thread Cert.WhitenReferenceIdeal.nD Cert.WhitenReferenceIdeal.τ).loc Cert.WhitenReferenceIdeal.main_arg0) = m ((c.tc : Thread Cert.WhitenIdeal.nD Cert.WhitenIdeal.τ).loc Cert.WhitenIdeal.main_arg0)
      ∧ m' ((c.tc : Thread Cert.WhitenReferenceIdeal.nD Cert.WhitenReferenceIdeal.τ).loc Cert.WhitenReferenceIdeal.main_arg1) = m ((c.tc : Thread Cert.WhitenIdeal.nD Cert.WhitenIdeal.τ).loc Cert.WhitenIdeal.main_arg1)
      ∧ m' ((c.tc : Thread Cert.WhitenReferenceIdeal.nD Cert.WhitenReferenceIdeal.τ).loc Cert.WhitenReferenceIdeal.main_arg2) = m ((c.tc : Thread Cert.WhitenIdeal.nD Cert.WhitenIdeal.τ).loc Cert.WhitenIdeal.main_arg2)) →
    ∃ (v0 : (c : Dev Cert.WhitenIdeal.nD) → Buf (Elt Ideal) ((c.tc : Thread Cert.WhitenIdeal.nD Cert.WhitenIdeal.τ).loc Cert.WhitenIdeal.main_v0)),
      θ_run (Cert.WhitenIdeal.defs (F := Ideal)) (onTc (τ := Cert.WhitenIdeal.τ) (Cert.WhitenIdeal.main (F := Ideal))) ⟨m, fun _ => 0, g⟩ (fun r => ∀ c : Dev Cert.WhitenIdeal.nD,
          r.2.mem ((c.tc : Thread Cert.WhitenIdeal.nD Cert.WhitenIdeal.τ).loc Cert.WhitenIdeal.main_v0) = v0 c
          ∧ r.2.mem ((c.tc : Thread Cert.WhitenIdeal.nD Cert.WhitenIdeal.τ).loc Cert.WhitenIdeal.main_arg0) = m ((c.tc : Thread Cert.WhitenIdeal.nD Cert.WhitenIdeal.τ).loc Cert.WhitenIdeal.main_arg0)
          ∧ r.2.mem ((c.tc : Thread Cert.WhitenIdeal.nD Cert.WhitenIdeal.τ).loc Cert.WhitenIdeal.main_arg1) = m ((c.tc : Thread Cert.WhitenIdeal.nD Cert.WhitenIdeal.τ).loc Cert.WhitenIdeal.main_arg1)
          ∧ r.2.mem ((c.tc : Thread Cert.WhitenIdeal.nD Cert.WhitenIdeal.τ).loc Cert.WhitenIdeal.main_arg2) = m ((c.tc : Thread Cert.WhitenIdeal.nD Cert.WhitenIdeal.τ).loc Cert.WhitenIdeal.main_arg2))
      ∧ θ_run (Cert.WhitenReferenceIdeal.defs (F := Ideal)) (onTc (τ := Cert.WhitenReferenceIdeal.τ) (Cert.WhitenReferenceIdeal.main (F := Ideal))) ⟨m', fun _ => 0, g'⟩ (fun r => ∀ c : Dev Cert.WhitenReferenceIdeal.nD,
          r.2.mem ((c.tc : Thread Cert.WhitenReferenceIdeal.nD Cert.WhitenReferenceIdeal.τ).loc Cert.WhitenReferenceIdeal.main_v4) = v0 c
          ∧ r.2.mem ((c.tc : Thread Cert.WhitenReferenceIdeal.nD Cert.WhitenReferenceIdeal.τ).loc Cert.WhitenReferenceIdeal.main_arg0) = m' ((c.tc : Thread Cert.WhitenReferenceIdeal.nD Cert.WhitenReferenceIdeal.τ).loc Cert.WhitenReferenceIdeal.main_arg0)
          ∧ r.2.mem ((c.tc : Thread Cert.WhitenReferenceIdeal.nD Cert.WhitenReferenceIdeal.τ).loc Cert.WhitenReferenceIdeal.main_arg1) = m' ((c.tc : Thread Cert.WhitenReferenceIdeal.nD Cert.WhitenReferenceIdeal.τ).loc Cert.WhitenReferenceIdeal.main_arg1)
          ∧ r.2.mem ((c.tc : Thread Cert.WhitenReferenceIdeal.nD Cert.WhitenReferenceIdeal.τ).loc Cert.WhitenReferenceIdeal.main_arg2) = m' ((c.tc : Thread Cert.WhitenReferenceIdeal.nD Cert.WhitenReferenceIdeal.τ).loc Cert.WhitenReferenceIdeal.main_arg2))

def Claim : Prop :=
  ∃ (hStats : Cert.Stats.Facts) (hStatsIdeal : Cert.StatsIdeal.Facts) (hStatsReferenceIdeal : Cert.StatsReferenceIdeal.Facts) (hFactor : Cert.Factor.Facts) (hFactorIdeal : Cert.FactorIdeal.Facts) (hFactorReferenceIdeal : Cert.FactorReferenceIdeal.Facts) (hWhiten : Cert.Whiten.Facts) (hWhitenIdeal : Cert.WhitenIdeal.Facts) (hWhitenReferenceIdeal : Cert.WhitenReferenceIdeal.Facts) (hPre_triangular : Cert.Pre_triangular.Facts) (hOn_written : Cert.On_written.Facts),
    quiescent_Stats (hStats := hStats)
    ∧ quiescent_StatsIdeal (hStatsIdeal := hStatsIdeal)
    ∧ quiescent_StatsReferenceIdeal (hStatsReferenceIdeal := hStatsReferenceIdeal)
    ∧ quiescent_Factor (hFactor := hFactor)
    ∧ quiescent_FactorIdeal (hFactorIdeal := hFactorIdeal)
    ∧ quiescent_FactorReferenceIdeal (hFactorReferenceIdeal := hFactorReferenceIdeal)
    ∧ quiescent_Whiten (hWhiten := hWhiten)
    ∧ quiescent_WhitenIdeal (hWhitenIdeal := hWhitenIdeal)
    ∧ quiescent_WhitenIdeal_pre_triangular (hWhitenIdeal := hWhitenIdeal) (hPre_triangular := hPre_triangular)
    ∧ quiescent_WhitenReferenceIdeal (hWhitenReferenceIdeal := hWhitenReferenceIdeal)
    ∧ quiescent_WhitenReferenceIdeal_pre_triangular (hWhitenReferenceIdeal := hWhitenReferenceIdeal) (hPre_triangular := hPre_triangular)
    ∧ preserves_Stats_StatsIdeal
    ∧ algebraic_StatsIdeal_StatsReferenceIdeal_on_written (hStatsIdeal := hStatsIdeal) (hStatsReferenceIdeal := hStatsReferenceIdeal) (hOn_written := hOn_written)
    ∧ preserves_Factor_FactorIdeal
    ∧ algebraic_FactorIdeal_FactorReferenceIdeal (hFactorIdeal := hFactorIdeal) (hFactorReferenceIdeal := hFactorReferenceIdeal)
    ∧ preserves_Whiten_WhitenIdeal
    ∧ algebraic_WhitenIdeal_WhitenReferenceIdeal_pre_triangular (hWhitenIdeal := hWhitenIdeal) (hWhitenReferenceIdeal := hWhitenReferenceIdeal) (hPre_triangular := hPre_triangular)
-- ==== On_written.lean ====
abbrev S16384x32x128 : Shape := ⟨3, ![16384, 32, 128]⟩
abbrev S2x32x32x128 : Shape := ⟨4, ![2, 32, 32, 128]⟩
abbrev S_ : Shape := ⟨0, ![]⟩
abbrev S2x32x128 : Shape := ⟨3, ![2, 32, 128]⟩

class Facts : Prop where
  bcast_S_S2x32x128 : S_.BroadcastsInDim S2x32x128 (![] : Fin 0 → Fin S2x32x128.rank)
  bcast_S_S2x32x32x128 : S_.BroadcastsInDim S2x32x32x128 (![] : Fin 0 → Fin S2x32x32x128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S2x32x32x128 32) (arg1 : IVec S_ 32) : IVec S2x32x32x128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S2x32x32x128 32 := broadcastInDim S2x32x32x128 ![] bcast_S_S2x32x32x128 v2
  let v4 : IVec S2x32x32x128 32 := Host.remsi arg0 v3
  let c_1 : IVec S_ 32 := constantI S_ 32 0#32
  let v5 : IVec S2x32x32x128 32 := broadcastInDim S2x32x32x128 ![] bcast_S_S2x32x32x128 c_1
  let v6 : IVec S2x32x32x128 1 := cmpi .ne v4 v5
  let c_2 : IVec S_ 32 := constantI S_ 32 0#32
  let v7 : IVec S2x32x32x128 32 := broadcastInDim S2x32x32x128 ![] bcast_S_S2x32x32x128 c_2
  let v8 : IVec S2x32x32x128 1 := cmpi .slt v4 v7
  let c_3 : IVec S_ 32 := constantI S_ 32 0#32
  let v9 : IVec S_ 1 := cmpi .slt v2 c_3
  let v10 : IVec S2x32x32x128 1 := broadcastInDim S2x32x32x128 ![] bcast_S_S2x32x32x128 v9
  let v11 : IVec S2x32x32x128 1 := cmpi .ne v8 v10
  let v12 : IVec S2x32x32x128 1 := andi v11 v6
  let v13 : IVec S2x32x32x128 32 := broadcastInDim S2x32x32x128 ![] bcast_S_S2x32x32x128 v2
  let v14 : IVec S2x32x32x128 32 := addi v4 v13
  let v15 : IVec S2x32x32x128 32 := select v12 v14 v4
  v15

def fn {F : FTy → Type} [FloatOps F] (main_arg0 : FVec F S16384x32x128 .f32) : IVec S2x32x128 1 × IVec S2x32x32x128 1 :=
  let main_v0 : IVec S2x32x32x128 32 := iotaInDim S2x32x32x128 32 1
  let main_v1 : IVec S2x32x32x128 32 := iotaInDim S2x32x32x128 32 2
  let main_c : IVec S_ 1 := constantI S_ 1 1#1
  let main_v2 : IVec S2x32x128 1 := broadcastInDim S2x32x128 ![] bcast_S_S2x32x128 main_c
  let main_c_0 : IVec S_ 32 := constantI S_ 32 8#32
  let main_v3 : IVec S2x32x32x128 32 := fn_remainder (F := F) main_v0 main_c_0
  let main_v4 : IVec S2x32x32x128 32 := subi main_v0 main_v3
  let main_v5 : IVec S2x32x32x128 1 := cmpi .sge main_v1 main_v4
  (main_v2, main_v5)
-- ==== Pre_triangular.lean ====
abbrev S16384x32x128 : Shape := ⟨3, ![16384, 32, 128]⟩
abbrev S32x32x128 : Shape := ⟨3, ![32, 32, 128]⟩
abbrev S32x128 : Shape := ⟨2, ![32, 128]⟩
abbrev S_ : Shape := ⟨0, ![]⟩

class Facts : Prop where
  bcast_S_S32x32x128 : S_.BroadcastsInDim S32x32x128 (![] : Fin 0 → Fin S32x32x128.rank)

variable [Facts]

def fn {F : FTy → Type} [FloatOps F] (main_arg0 : FVec F S16384x32x128 .f32) (main_arg1 : FVec F S32x32x128 .f32) (main_arg2 : FVec F S32x128 .f32) : IVec S32x32x128 1 :=
  let main_v0 : IVec S32x32x128 32 := iotaInDim S32x32x128 32 0
  let main_v1 : IVec S32x32x128 32 := iotaInDim S32x32x128 32 1
  let main_v2 : IVec S32x32x128 1 := cmpi .sle main_v0 main_v1
  let main_cst : FVec F S_ .f32 := constant S_ .f32 0x00000000#32
  let main_v3 : FVec F S32x32x128 .f32 := broadcastInDim S32x32x128 ![] bcast_S_S32x32x128 main_cst
  let main_v4 : IVec S32x32x128 1 := cmpf .oeq main_arg1 main_v3
  let main_v5 : IVec S32x32x128 1 := ori main_v2 main_v4
  main_v5
-- ==== Stats.lean ====
abbrev S16384x32x128 : Shape := ⟨3, ![16384, 32, 128]⟩
abbrev S2x32x128 : Shape := ⟨3, ![2, 32, 128]⟩
abbrev S2x32x32x128 : Shape := ⟨4, ![2, 32, 32, 128]⟩
abbrev S256x32x128 : Shape := ⟨3, ![256, 32, 128]⟩
abbrev S1x32x128 : Shape := ⟨3, ![1, 32, 128]⟩
abbrev S1x32x32x128 : Shape := ⟨4, ![1, 32, 32, 128]⟩
abbrev S8x32x128 : Shape := ⟨3, ![8, 32, 128]⟩
abbrev S32x128 : Shape := ⟨2, ![32, 128]⟩
abbrev S8x1x128 : Shape := ⟨3, ![8, 1, 128]⟩
abbrev S4x32x128 : Shape := ⟨3, ![4, 32, 128]⟩
abbrev S8x24x128 : Shape := ⟨3, ![8, 24, 128]⟩
abbrev S4x24x128 : Shape := ⟨3, ![4, 24, 128]⟩
abbrev S2x24x128 : Shape := ⟨3, ![2, 24, 128]⟩
abbrev S1x24x128 : Shape := ⟨3, ![1, 24, 128]⟩
abbrev S24x128 : Shape := ⟨2, ![24, 128]⟩
abbrev S8x16x128 : Shape := ⟨3, ![8, 16, 128]⟩
abbrev S4x16x128 : Shape := ⟨3, ![4, 16, 128]⟩
abbrev S2x16x128 : Shape := ⟨3, ![2, 16, 128]⟩
abbrev S1x16x128 : Shape := ⟨3, ![1, 16, 128]⟩
abbrev S16x128 : Shape := ⟨2, ![16, 128]⟩
abbrev S8x8x128 : Shape := ⟨3, ![8, 8, 128]⟩
abbrev S4x8x128 : Shape := ⟨3, ![4, 8, 128]⟩
abbrev S2x8x128 : Shape := ⟨3, ![2, 8, 128]⟩
abbrev S1x8x128 : Shape := ⟨3, ![1, 8, 128]⟩
abbrev S8x128 : Shape := ⟨2, ![8, 128]⟩
abbrev S1x1x32x128 : Shape := ⟨4, ![1, 1, 32, 128]⟩
abbrev S1x1x24x128 : Shape := ⟨4, ![1, 1, 24, 128]⟩
abbrev S1x1x16x128 : Shape := ⟨4, ![1, 1, 16, 128]⟩
abbrev S1x1x8x128 : Shape := ⟨4, ![1, 1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x32x128, .f32⟩
  | .hbm, ⟨1, _⟩ => ⟨S2x32x128, .f32⟩
  | .hbm, ⟨2, _⟩ => ⟨S2x32x32x128, .f32⟩
  | .local _ .vmem, ⟨0, _⟩ => ⟨S256x32x128, .f32⟩
  | .local _ .vmem, ⟨1, _⟩ => ⟨S256x32x128, .f32⟩
  | .local _ .vmem, ⟨2, _⟩ => ⟨S1x32x128, .f32⟩
  | .local _ .vmem, ⟨3, _⟩ => ⟨S1x32x128, .f32⟩
  | .local _ .vmem, ⟨4, _⟩ => ⟨S1x32x32x128, .f32⟩
  | .local _ .vmem, ⟨5, _⟩ => ⟨S1x32x32x128, .f32⟩
  | _, _ => ⟨S16384x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v16735 : BitVec 1 := Scalar.cmpi .eq arg1 c0_i32
  let v16736 : BitVec 32 := Scalar.extui v16735
  let c0_i32_95 : BitVec 32 := 0#32
  let v16737 : BitVec 1 := Scalar.cmpi .ne v16736 c0_i32_95
  v16737

def k0_cond2 (i : grid0.Coords) : BitVec 1 :=
  let arg1 : BitVec 32 := BitVec.ofNat 32 (i 1).val
  let c0_i32_96 : BitVec 32 := 0#32
  let v16738 : BitVec 1 := Scalar.cmpi .ne arg1 c0_i32_96
  let v16739 : BitVec 32 := Scalar.extui v16738
  let c0_i32_97 : BitVec 32 := 0#32
  let v16740 : BitVec 1 := Scalar.cmpi .ne v16739 c0_i32_97
  v16740

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== StatsReferenceIdeal.lean ====
abbrev S16384x32x128 : Shape := ⟨3, ![16384, 32, 128]⟩
abbrev S2x8192x32x128 : Shape := ⟨4, ![2, 8192, 32, 128]⟩
abbrev S_ : Shape := ⟨0, ![]⟩
abbrev S2x32x128 : Shape := ⟨3, ![2, 32, 128]⟩
abbrev S2x128x32x32 : Shape := ⟨4, ![2, 128, 32, 32]⟩
abbrev S2x32x32x128 : Shape := ⟨4, ![2, 32, 32, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x32x128, .f32⟩
  | .hbm, ⟨1, _⟩ => ⟨S2x8192x32x128, .f32⟩
  | .hbm, ⟨2, _⟩ => ⟨S_, .f32⟩
  | .hbm, ⟨3, _⟩ => ⟨S2x32x128, .f32⟩
  | .hbm, ⟨4, _⟩ => ⟨S2x128x32x32, .f32⟩
  | .hbm, ⟨5, _⟩ => ⟨S2x32x32x128, .f32⟩
  | _, _ => ⟨S16384x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Factor.lean ====
abbrev S2x32x128 : Shape := ⟨3, ![2, 32, 128]⟩
abbrev S2x32x32x128 : Shape := ⟨4, ![2, 32, 32, 128]⟩
abbrev S32x128 : Shape := ⟨2, ![32, 128]⟩
abbrev S128x32x32 : Shape := ⟨3, ![128, 32, 32]⟩
abbrev S1 : Shape := ⟨1, ![1]⟩
abbrev S32x32x128 : Shape := ⟨3, ![32, 32, 128]⟩
abbrev S1x32x128 : Shape := ⟨3, ![1, 32, 128]⟩
abbrev S1x32x32x128 : Shape := ⟨4, ![1, 32, 32, 128]⟩
abbrev S32x1x128 : Shape := ⟨3, ![32, 1, 128]⟩
abbrev S1x128 : Shape := ⟨2, ![1, 128]⟩
abbrev S1x1x128 : Shape := ⟨3, ![1, 1, 128]⟩
abbrev S31x128 : Shape := ⟨2, ![31, 128]⟩
abbrev S31x31x128 : Shape := ⟨3, ![31, 31, 128]⟩
abbrev S31x1x128 : Shape := ⟨3, ![31, 1, 128]⟩
abbrev S1x31x128 : Shape := ⟨3, ![1, 31, 128]⟩
abbrev S30x128 : Shape := ⟨2, ![30, 128]⟩
abbrev S30x30x128 : Shape := ⟨3, ![30, 30, 128]⟩
abbrev S30x1x128 : Shape := ⟨3, ![30, 1, 128]⟩
abbrev S1x30x128 : Shape := ⟨3, ![1, 30, 128]⟩
abbrev S29x128 : Shape := ⟨2, ![29, 128]⟩
abbrev S29x29x128 : Shape := ⟨3, ![29, 29, 128]⟩
abbrev S29x1x128 : Shape := ⟨3, ![29, 1, 128]⟩
abbrev S1x29x128 : Shape := ⟨3, ![1, 29, 128]⟩
abbrev S28x128 : Shape := ⟨2, ![28, 128]⟩
abbrev S28x28x128 : Shape := ⟨3, ![28, 28, 128]⟩
abbrev S28x1x128 : Shape := ⟨3, ![28, 1, 128]⟩
abbrev S1x28x128 : Shape := ⟨3, ![1, 28, 128]⟩
abbrev S27x128 : Shape := ⟨2, ![27, 128]⟩
abbrev S27x27x128 : Shape := ⟨3, ![27, 27, 128]⟩
abbrev S27x1x128 : Shape := ⟨3, ![27, 1, 128]⟩
abbrev S1x27x128 : Shape := ⟨3, ![1, 27, 128]⟩
abbrev S26x128 : Shape := ⟨2, ![26, 128]⟩
abbrev S26x26x128 : Shape := ⟨3, ![26, 26, 128]⟩
abbrev S26x1x128 : Shape := ⟨3, ![26, 1, 128]⟩
abbrev S1x26x128 : Shape := ⟨3, ![1, 26, 128]⟩
abbrev S25x128 : Shape := ⟨2, ![25, 128]⟩
abbrev S25x25x128 : Shape := ⟨3, ![25, 25, 128]⟩
abbrev S25x1x128 : Shape := ⟨3, ![25, 1, 128]⟩
abbrev S1x25x128 : Shape := ⟨3, ![1, 25, 128]⟩
abbrev S24x128 : Shape := ⟨2, ![24, 128]⟩
abbrev S24x24x128 : Shape := ⟨3, ![24, 24, 128]⟩
abbrev S24x1x128 : Shape := ⟨3, ![24, 1, 128]⟩
abbrev S1x24x128 : Shape := ⟨3, ![1, 24, 128]⟩
abbrev S23x128 : Shape := ⟨2, ![23, 128]⟩
abbrev S23x23x128 : Shape := ⟨3, ![23, 23, 128]⟩
abbrev S23x1x128 : Shape := ⟨3, ![23, 1, 128]⟩
abbrev S1x23x128 : Shape := ⟨3, ![1, 23, 128]⟩
abbrev S22x128 : Shape := ⟨2, ![22, 128]⟩
abbrev S22x22x128 : Shape := ⟨3, ![22, 22, 128]⟩
abbrev S22x1x128 : Shape := ⟨3, ![22, 1, 128]⟩
abbrev S1x22x128 : Shape := ⟨3, ![1, 22, 128]⟩
abbrev S21x128 : Shape := ⟨2, ![21, 128]⟩
abbrev S21x21x128 : Shape := ⟨3, ![21, 21, 128]⟩
abbrev S21x1x128 : Shape := ⟨3, ![21, 1, 128]⟩
abbrev S1x21x128 : Shape := ⟨3, ![1, 21, 128]⟩
abbrev S20x128 : Shape := ⟨2, ![20, 128]⟩
abbrev S20x20x128 : Shape := ⟨3, ![20, 20, 128]⟩
abbrev S20x1x128 : Shape := ⟨3, ![20, 1, 128]⟩
abbrev S1x20x128 : Shape := ⟨3, ![1, 20, 128]⟩
abbrev S19x128 : Shape := ⟨2, ![19, 128]⟩
abbrev S19x19x128 : Shape := ⟨3, ![19, 19, 128]⟩
abbrev S19x1x128 : Shape := ⟨3, ![19, 1, 128]⟩
abbrev S1x19x128 : Shape := ⟨3, ![1, 19, 128]⟩
abbrev S18x128 : Shape := ⟨2, ![18, 128]⟩
abbrev S18x18x128 : Shape := ⟨3, ![18, 18, 128]⟩
abbrev S18x1x128 : Shape := ⟨3, ![18, 1, 128]⟩
abbrev S1x18x128 : Shape := ⟨3, ![1, 18, 128]⟩
abbrev S17x128 : Shape := ⟨2, ![17, 128]⟩
abbrev S17x17x128 : Shape := ⟨3, ![17, 17, 128]⟩
abbrev S17x1x128 : Shape := ⟨3, ![17, 1, 128]⟩
abbrev S1x17x128 : Shape := ⟨3, ![1, 17, 128]⟩
abbrev S16x128 : Shape := ⟨2, ![16, 128]⟩
abbrev S16x16x128 : Shape := ⟨3, ![16, 16, 128]⟩
abbrev S16x1x128 : Shape := ⟨3, ![16, 1, 128]⟩
abbrev S1x16x128 : Shape := ⟨3, ![1, 16, 128]⟩
abbrev S15x128 : Shape := ⟨2, ![15, 128]⟩
abbrev S15x15x128 : Shape := ⟨3, ![15, 15, 128]⟩
abbrev S15x1x128 : Shape := ⟨3, ![15, 1, 128]⟩
abbrev S1x15x128 : Shape := ⟨3, ![1, 15, 128]⟩
abbrev S14x128 : Shape := ⟨2, ![14, 128]⟩
abbrev S14x14x128 : Shape := ⟨3, ![14, 14, 128]⟩
abbrev S14x1x128 : Shape := ⟨3, ![14, 1, 128]⟩
abbrev S1x14x128 : Shape := ⟨3, ![1, 14, 128]⟩
abbrev S13x128 : Shape := ⟨2, ![13, 128]⟩
abbrev S13x13x128 : Shape := ⟨3, ![13, 13, 128]⟩
abbrev S13x1x128 : Shape := ⟨3, ![13, 1, 128]⟩
abbrev S1x13x128 : Shape := ⟨3, ![1, 13, 128]⟩
abbrev S12x128 : Shape := ⟨2, ![12, 128]⟩
abbrev S12x12x128 : Shape := ⟨3, ![12, 12, 128]⟩
abbrev S12x1x128 : Shape := ⟨3, ![12, 1, 128]⟩
abbrev S1x12x128 : Shape := ⟨3, ![1, 12, 128]⟩
abbrev S11x128 : Shape := ⟨2, ![11, 128]⟩
abbrev S11x11x128 : Shape := ⟨3, ![11, 11, 128]⟩
abbrev S11x1x128 : Shape := ⟨3, ![11, 1, 128]⟩
abbrev S1x11x128 : Shape := ⟨3, ![1, 11, 128]⟩
abbrev S10x128 : Shape := ⟨2, ![10, 128]⟩
abbrev S10x10x128 : Shape := ⟨3, ![10, 10, 128]⟩
abbrev S10x1x128 : Shape := ⟨3, ![10, 1, 128]⟩
abbrev S1x10x128 : Shape := ⟨3, ![1, 10, 128]⟩
abbrev S9x128 : Shape := ⟨2, ![9, 128]⟩
abbrev S9x9x128 : Shape := ⟨3, ![9, 9, 128]⟩
abbrev S9x1x128 : Shape := ⟨3, ![9, 1, 128]⟩
abbrev S1x9x128 : Shape := ⟨3, ![1, 9, 128]⟩
abbrev S8x128 : Shape := ⟨2, ![8, 128]⟩
abbrev S8x8x128 : Shape := ⟨3, ![8, 8, 128]⟩
abbrev S8x1x128 : Shape := ⟨3, ![8, 1, 128]⟩
abbrev S1x8x128 : Shape := ⟨3, ![1, 8, 128]⟩
abbrev S7x128 : Shape := ⟨2, ![7, 128]⟩
abbrev S7x7x128 : Shape := ⟨3, ![7, 7, 128]⟩
abbrev S7x1x128 : Shape := ⟨3, ![7, 1, 128]⟩
abbrev S1x7x128 : Shape := ⟨3, ![1, 7, 128]⟩
abbrev S6x128 : Shape := ⟨2, ![6, 128]⟩
abbrev S6x6x128 : Shape := ⟨3, ![6, 6, 128]⟩
abbrev S6x1x128 : Shape := ⟨3, ![6, 1, 128]⟩
abbrev S1x6x128 : Shape := ⟨3, ![1, 6, 128]⟩
abbrev S5x128 : Shape := ⟨2, ![5, 128]⟩
abbrev S5x5x128 : Shape := ⟨3, ![5, 5, 128]⟩
abbrev S5x1x128 : Shape := ⟨3, ![5, 1, 128]⟩
abbrev S1x5x128 : Shape := ⟨3, ![1, 5, 128]⟩
abbrev S4x128 : Shape := ⟨2, ![4, 128]⟩
abbrev S4x4x128 : Shape := ⟨3, ![4, 4, 128]⟩
abbrev S4x1x128 : Shape := ⟨3, ![4, 1, 128]⟩
abbrev S1x4x128 : Shape := ⟨3, ![1, 4, 128]⟩
abbrev S3x128 : Shape := ⟨2, ![3, 128]⟩
abbrev S3x3x128 : Shape := ⟨3, ![3, 3, 128]⟩
abbrev S3x1x128 : Shape := ⟨3, ![3, 1, 128]⟩
abbrev S1x3x128 : Shape := ⟨3, ![1, 3, 128]⟩
abbrev S2x128 : Shape := ⟨2, ![2, 128]⟩
abbrev S2x2x128 : Shape := ⟨3, ![2, 2, 128]⟩
abbrev S2x1x128 : Shape := ⟨3, ![2, 1, 128]⟩
abbrev S1x2x128 : Shape := ⟨3, ![1, 2, 128]⟩
abbrev S128 : Shape := ⟨1, ![128]⟩
abbrev S3x32x128 : Shape := ⟨3, ![3, 32, 128]⟩
abbrev S4x32x128 : Shape := ⟨3, ![4, 32, 128]⟩
abbrev S5x32x128 : Shape := ⟨3, ![5, 32, 128]⟩
abbrev S6x32x128 : Shape := ⟨3, ![6, 32, 128]⟩
abbrev S7x32x128 : Shape := ⟨3, ![7, 32, 128]⟩
abbrev S8x32x128 : Shape := ⟨3, ![8, 32, 128]⟩
abbrev S9x32x128 : Shape := ⟨3, ![9, 32, 128]⟩
abbrev S10x32x128 : Shape := ⟨3, ![10, 32, 128]⟩
abbrev S11x32x128 : Shape := ⟨3, ![11, 32, 128]⟩
abbrev S12x32x128 : Shape := ⟨3, ![12, 32, 128]⟩
abbrev S13x32x128 : Shape := ⟨3, ![13, 32, 128]⟩
abbrev S14x32x128 : Shape := ⟨3, ![14, 32, 128]⟩
abbrev S15x32x128 : Shape := ⟨3, ![15, 32, 128]⟩
abbrev S16x32x128 : Shape := ⟨3, ![16, 32, 128]⟩
abbrev S17x32x128 : Shape := ⟨3, ![17, 32, 128]⟩
abbrev S18x32x128 : Shape := ⟨3, ![18, 32, 128]⟩
abbrev S19x32x128 : Shape := ⟨3, ![19, 32, 128]⟩
abbrev S20x32x128 : Shape := ⟨3, ![20, 32, 128]⟩
abbrev S21x32x128 : Shape := ⟨3, ![21, 32, 128]⟩
abbrev S22x32x128 : Shape := ⟨3, ![22, 32, 128]⟩
abbrev S23x32x128 : Shape := ⟨3, ![23, 32, 128]⟩
abbrev S24x32x128 : Shape := ⟨3, ![24, 32, 128]⟩
abbrev S25x32x128 : Shape := ⟨3, ![25, 32, 128]⟩
abbrev S26x32x128 : Shape := ⟨3, ![26, 32, 128]⟩
abbrev S27x32x128 : Shape := ⟨3, ![27, 32, 128]⟩
abbrev S28x32x128 : Shape := ⟨3, ![28, 32, 128]⟩
abbrev S29x32x128 : Shape := ⟨3, ![29, 32, 128]⟩
abbrev S30x32x128 : Shape := ⟨3, ![30, 32, 128]⟩
abbrev S31x32x128 : Shape := ⟨3, ![31, 32, 128]⟩

abbrev nBuf : Space → Nat
  | .hbm => 9
  | .vmem => 9
  | .smem => 1
  | _ => 0

abbrev bufTy : (tb : Table) → Fin (tcTables nBuf tb) → BufTy
  | .hbm, ⟨0, _⟩ => ⟨S2x32x128, .f32⟩
  | .hbm, ⟨1, _⟩ => ⟨S2x32x32x128, .f32⟩
  | .hbm, ⟨2, _⟩ => ⟨S32x128, .f32⟩
  | .hbm, ⟨3, _⟩ => ⟨S128x32x32, .f32⟩
  | .hbm, ⟨4, _⟩ => ⟨S1, .f32⟩
  | .hbm, ⟨5, _⟩ => ⟨S32x32x128, .f32⟩
  | .hbm, ⟨6, _⟩ => ⟨S32x32x128, .f32⟩
  | .hbm, ⟨7, _⟩ => ⟨S32x128, .f32⟩
  | .hbm, ⟨8, _⟩ => ⟨S32x128, .f32⟩
  | .local _ .vmem, ⟨0, _⟩ => ⟨S2x32x128, .f32⟩
  | .local _ .vmem, ⟨1, _⟩ => ⟨S2x32x32x128, .f32⟩
  | .local _ .vmem, ⟨2, _⟩ => ⟨S32x128, .f32⟩
  | .local _ .vmem, ⟨3, _⟩ => ⟨S32x32x128, .f32⟩
  | .local _ .vmem, ⟨4, _⟩ => ⟨S32x32x128, .f32⟩
  | .local _ .vmem, ⟨5, _⟩ => ⟨S32x128, .f32⟩
  | .local _ .vmem, ⟨6, _⟩ => ⟨S32x128, .f32⟩
  | .local _ .vmem, ⟨7, _⟩ => ⟨S32x32x128, .f32⟩
  | .local _ .vmem, ⟨8, _⟩ => ⟨S32x32x128, .f32⟩
  | .local _ .smem, ⟨0, _⟩ => ⟨S1, .f32⟩
  | _, _ => ⟨S2x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== FactorReferenceIdeal.lean ====
abbrev S2x32x128 : Shape := ⟨3, ![2, 32, 128]⟩
abbrev S2x32x32x128 : Shape := ⟨4, ![2, 32, 32, 128]⟩
abbrev S32x128 : Shape := ⟨2, ![32, 128]⟩
abbrev S128x32x32 : Shape := ⟨3, ![128, 32, 32]⟩
abbrev S1 : Shape := ⟨1, ![1]⟩
abbrev S_ : Shape := ⟨0, ![]⟩
abbrev S1x32x128 : Shape := ⟨3, ![1, 32, 128]⟩
abbrev S32x32x128 : Shape := ⟨3, ![32, 32, 128]⟩
abbrev S1x32x32x128 : Shape := ⟨4, ![1, 32, 32, 128]⟩
abbrev S32x1x128 : Shape := ⟨3, ![32, 1, 128]⟩
abbrev S1x128 : Shape := ⟨2, ![1, 128]⟩

abbrev nBuf : Space → Nat
  | .hbm => 202
  | .vmem => 0
  | .smem => 0
  | _ => 0

abbrev hbmTy0_0 (i : Nat) : BufTy := match i % 128 with
  | 0 => ⟨S2x32x128, .f32⟩
  | 1 => ⟨S2x32x32x128, .f32⟩
  | 2 => ⟨S32x128, .f32⟩
  | 3 => ⟨S128x32x32, .f32⟩
  | 4 => ⟨S1, .f32⟩
  | 5 => ⟨S_, .f32⟩
  | 6 => ⟨S_, .f32⟩
  | 7 => ⟨S_, .f32⟩
  | 8 => ⟨S1x32x128, .f32⟩
  | 9 => ⟨S32x128, .f32⟩
  | 10 => ⟨S1x32x128, .f32⟩
  | 11 => ⟨S32x128, .f32⟩
  | 12 => ⟨S32x128, .f32⟩
  | 13 => ⟨S_, .f32⟩
  | 14 => ⟨S32x128, .f32⟩
  | 15 => ⟨S32x128, .f32⟩
  | 16 => ⟨S32x128, .f32⟩
  | 17 => ⟨S32x32x128, .i32⟩
  | 18 => ⟨S32x32x128, .i32⟩
  | 19 => ⟨S1x32x32x128, .f32⟩
  | 20 => ⟨S32x32x128, .f32⟩
  | 21 => ⟨S1x32x32x128, .f32⟩
  | 22 => ⟨S32x32x128, .f32⟩
  | 23 => ⟨S32x32x128, .f32⟩
  | 24 => ⟨S_, .i32⟩
  | 25 => ⟨S32x32x128, .i32⟩
  | 26 => ⟨S32x32x128, .i32⟩
  | 27 => ⟨S32x32x128, .i32⟩
  | 28 => ⟨S32x32x128, .i1⟩
  | 29 => ⟨S32x32x128, .f32⟩
  | 30 => ⟨S32x32x128, .f32⟩
  | 31 => ⟨S32x1x128, .f32⟩
  | 32 => ⟨S1x32x128, .f32⟩
  | 33 => ⟨S32x32x128, .f32⟩
  | 34 => ⟨S32x32x128, .f32⟩
  | 35 => ⟨S32x32x128, .f32⟩
  | 36 => ⟨S_, .f32⟩
  | 37 => ⟨S32x32x128, .f32⟩
  | 38 => ⟨S32x32x128, .f32⟩
  | 39 => ⟨S32x32x128, .f32⟩
  | 40 => ⟨S128x32x32, .f32⟩
  | 41 => ⟨S32x32x128, .f32⟩
  | 42 => ⟨S_, .f32⟩
  | 43 => ⟨S32x32x128, .f32⟩
  | 44 => ⟨S32x32x128, .f32⟩
  | 45 => ⟨S_, .f32⟩
  | 46 => ⟨S_, .f32⟩
  | 47 => ⟨S32x32x128, .f32⟩
  | 48 => ⟨S32x32x128, .f32⟩
  | 49 => ⟨S32x32x128, .f32⟩
  | 50 => ⟨S32x1x128, .f32⟩
  | 51 => ⟨S1x32x128, .f32⟩
  | 52 => ⟨S32x32x128, .f32⟩
  | 53 => ⟨S32x32x128, .f32⟩
  | 54 => ⟨S32x32x128, .f32⟩
  | 55 => ⟨S_, .f32⟩
  | 56 => ⟨S_, .f32⟩
  | 57 => ⟨S_, .f32⟩
  | 58 => ⟨S_, .f32⟩
  | 59 => ⟨S32x32x128, .f32⟩
  | 60 => ⟨S32x32x128, .f32⟩
  | 61 => ⟨S32x32x128, .f32⟩
  | 62 => ⟨S32x32x128, .i1⟩
  | 63 => ⟨S_, .f32⟩
  | 64 => ⟨S32x32x128, .f32⟩
  | 65 => ⟨S_, .f32⟩
  | 66 => ⟨S32x32x128, .f32⟩
  | 67 => ⟨S32x32x128, .f32⟩
  | 68 => ⟨S32x128, .i32⟩
  | 69 => ⟨S_, .f32⟩
  | 70 => ⟨S32x128, .f32⟩
  | 71 => ⟨S_, .f32⟩
  | 72 => ⟨S32x128, .f32⟩
  | 73 => ⟨S_, .f32⟩
  | 74 => ⟨S32x32x128, .f32⟩
  | 75 => ⟨S32x32x128, .f32⟩
  | 76 => ⟨S_, .i32⟩
  | 77 => ⟨S_, .i32⟩
  | 78 => ⟨S32x128, .i32⟩
  | 79 => ⟨S32x128, .f32⟩
  | 80 => ⟨S32x128, .f32⟩
  | 81 => ⟨S_, .i32⟩
  | 82 => ⟨S_, .i32⟩
  | 83 => ⟨S32x32x128, .f32⟩
  | 84 => ⟨S32x32x128, .f32⟩
  | 85 => ⟨S32x32x128, .f32⟩
  | 86 => ⟨S_, .i32⟩
  | 87 => ⟨S_, .i1⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S32x1x128, .f32⟩
  | 99 => ⟨S32x128, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S1x128, .f32⟩
  | 108 => ⟨S1x128, .f32⟩
  | 109 => ⟨S32x128, .f32⟩
  | 110 => ⟨S32x128, .f32⟩
  | 111 => ⟨S_, .i32⟩
  | 112 => ⟨S32x128, .i32⟩
  | 113 => ⟨S32x128, .i1⟩
  | 114 => ⟨S32x128, .f32⟩
  | 115 => ⟨S32x1x128, .f32⟩
  | 116 => ⟨S1x32x128, .f32⟩
  | 117 => ⟨S32x32x128, .f32⟩
  | 118 => ⟨S32x32x128, .f32⟩
  | 119 => ⟨S32x32x128, .f32⟩
  | 120 => ⟨S32x32x128, .f32⟩
  | 121 => ⟨S32x1x128, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S2x32x128, .f32⟩

abbrev hbmTy0_1 (i : Nat) : BufTy := match i % 128 with
  | 0 => ⟨S_, .i32⟩
  | 1 => ⟨S_, .i32⟩
  | 2 => ⟨S32x32x128, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S1x32x128, .f32⟩
  | 12 => ⟨S32x128, .f32⟩
  | 13 => ⟨S_, .i32⟩
  | 14 => ⟨S32x128, .i32⟩
  | 15 => ⟨S32x128, .i1⟩
  | 16 => ⟨S32x128, .f32⟩
  | 17 => ⟨S32x1x128, .f32⟩
  | 18 => ⟨S32x32x128, .f32⟩
  | 19 => ⟨S32x32x128, .f32⟩
  | 20 => ⟨S_, .f32⟩
  | 21 => ⟨S32x128, .f32⟩
  | 22 => ⟨S32x128, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x128, .f32⟩
  | 31 => ⟨S_, .f32⟩
  | 32 => ⟨S1x128, .f32⟩
  | 33 => ⟨S1x128, .f32⟩
  | 34 => ⟨S32x128, .f32⟩
  | 35 => ⟨S32x128, .f32⟩
  | 36 => ⟨S1x32x128, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S32x32x128, .f32⟩
  | 46 => ⟨S_, .i32⟩
  | 47 => ⟨S_, .i32⟩
  | 48 => ⟨S_, .f32⟩
  | 49 => ⟨S32x128, .f32⟩
  | 50 => ⟨S32x128, .f32⟩
  | 51 => ⟨S1x32x128, .f32⟩
  | 52 => ⟨S32x128, .f32⟩
  | 53 => ⟨S1x32x128, .f32⟩
  | 54 => ⟨S32x128, .f32⟩
  | 55 => ⟨S32x128, .f32⟩
  | 56 => ⟨S_, .f32⟩
  | 57 => ⟨S32x128, .f32⟩
  | 58 => ⟨S32x128, .f32⟩
  | 59 => ⟨S_, .f32⟩
  | 60 => ⟨S32x128, .f32⟩
  | 61 => ⟨S32x128, .f32⟩
  | 62 => ⟨S32x128, .f32⟩
  | 63 => ⟨S_, .f32⟩
  | 64 => ⟨S_, .f32⟩
  | 65 => ⟨S_, .f32⟩
  | 66 => ⟨S32x128, .f32⟩
  | 67 => ⟨S32x128, .f32⟩
  | 68 => ⟨S32x32x128, .f32⟩
  | 69 => ⟨S1x32x128, .f32⟩
  | 70 => ⟨S32x32x128, .f32⟩
  | 71 => ⟨S32x32x128, .f32⟩
  | 72 => ⟨S_, .f32⟩
  | 73 => ⟨S32x128, .f32⟩
  | _ => ⟨S2x32x128, .f32⟩

abbrev hbmTy (i : Nat) : BufTy := match i / 128 with
  | 0 => hbmTy0_0 i
  | 1 => hbmTy0_1 i
  | _ => ⟨S2x32x128, .f32⟩

abbrev bufTy : (tb : Table) → Fin (tcTables nBuf tb) → BufTy
  | .hbm, ⟨i, _⟩ => hbmTy i
  | _, _ => ⟨S2x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_c_9 : Ref sig .tc := ⟨.hbm, 76, rfl⟩
abbrev main_c_10 : Ref sig .tc := ⟨.hbm, 77, rfl⟩
abbrev main_v60_0 : Ref sig .tc := ⟨.hbm, 78, rfl⟩
abbrev main_v60_1 : Ref sig .tc := ⟨.hbm, 79, rfl⟩
abbrev main_v60_2 : Ref sig .tc := ⟨.hbm, 80, rfl⟩
abbrev main_v60_3 : Ref sig .tc := ⟨.hbm, 81, rfl⟩
abbrev main_v60_4 : Ref sig .tc := ⟨.hbm, 82, rfl⟩
abbrev main_v60_5 : Ref sig .tc := ⟨.hbm, 83, rfl⟩
abbrev main_v60_6 : Ref sig .tc := ⟨.hbm, 84, rfl⟩
abbrev main_v60_7 : Ref sig .tc := ⟨.hbm, 85, rfl⟩
abbrev main_while0c_c_22 : Ref sig .tc := ⟨.hbm, 86, rfl⟩
abbrev main_while0c_v83 : Ref sig .tc := ⟨.hbm, 87, rfl⟩
abbrev main_while0b_c_22 : Ref sig .tc := ⟨.hbm, 88, rfl⟩
abbrev main_while0b_v83 : Ref sig .tc := ⟨.hbm, 89, rfl⟩
abbrev main_while0b_call0_c : Ref sig .tc := ⟨.hbm, 90, rfl⟩
abbrev main_while0b_call0_v0 : Ref sig .tc := ⟨.hbm, 91, rfl⟩
abbrev main_while0b_call0_v1 : Ref sig .tc := ⟨.hbm, 92, rfl⟩
abbrev main_while0b_call0_c_0 : Ref sig .tc := ⟨.hbm, 93, rfl⟩
abbrev main_while0b_call0_v2 : Ref sig .tc := ⟨.hbm, 94, rfl⟩
abbrev main_while0b_call0_v3 : Ref sig .tc := ⟨.hbm, 95, rfl⟩
abbrev main_while0b_call0_c_1 : Ref sig .tc := ⟨.hbm, 96, rfl⟩
abbrev main_while0b_call0_c_2 : Ref sig .tc := ⟨.hbm, 97, rfl⟩
abbrev main_while0b_call0_v4 : Ref sig .tc := ⟨.hbm, 98, rfl⟩
abbrev main_while0b_v84 : Ref sig .tc := ⟨.hbm, 99, rfl⟩
abbrev main_while0b_call1_c : Ref sig .tc := ⟨.hbm, 100, rfl⟩
abbrev main_while0b_call1_v0 : Ref sig .tc := ⟨.hbm, 101, rfl⟩
abbrev main_while0b_call1_v1 : Ref sig .tc := ⟨.hbm, 102, rfl⟩
abbrev main_while0b_call1_c_0 : Ref sig .tc := ⟨.hbm, 103, rfl⟩
abbrev main_while0b_call1_v2 : Ref sig .tc := ⟨.hbm, 104, rfl⟩
abbrev main_while0b_call1_v3 : Ref sig .tc := ⟨.hbm, 105, rfl⟩
abbrev main_while0b_call1_c_1 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_call2_c : Ref sig .tc := ⟨.hbm, 122, rfl⟩
abbrev main_while0b_call2_v0 : Ref sig .tc := ⟨.hbm, 123, rfl⟩
abbrev main_while0b_call2_v1 : Ref sig .tc := ⟨.hbm, 124, rfl⟩
abbrev main_while0b_call2_c_0 : Ref sig .tc := ⟨.hbm, 125, rfl⟩
abbrev main_while0b_call2_v2 : Ref sig .tc := ⟨.hbm, 126, rfl⟩
abbrev main_while0b_call2_v3 : Ref sig .tc := ⟨.hbm, 127, rfl⟩
abbrev main_while0b_call2_c_1 : Ref sig .tc := ⟨.hbm, 128, rfl⟩
abbrev main_while0b_call2_c_2 : Ref sig .tc := ⟨.hbm, 129, rfl⟩
abbrev main_while0b_v100 : Ref sig .tc := ⟨.hbm, 130, rfl⟩
abbrev main_while0b_call3_c : Ref sig .tc := ⟨.hbm, 131, rfl⟩
abbrev main_while0b_call3_v0 : Ref sig .tc := ⟨.hbm, 132, rfl⟩
abbrev main_while0b_call3_v1 : Ref sig .tc := ⟨.hbm, 133, rfl⟩
abbrev main_while0b_call3_c_0 : Ref sig .tc := ⟨.hbm, 134, rfl⟩
abbrev main_while0b_call3_v2 : Ref sig .tc := ⟨.hbm, 135, rfl⟩
abbrev main_while0b_call3_v3 : Ref sig .tc := ⟨.hbm, 136, rfl⟩
abbrev main_while0b_call3_c_1 : Ref sig .tc := ⟨.hbm, 137, rfl⟩
abbrev main_while0b_call3_c_2 : Ref sig .tc := ⟨.hbm, 138, rfl⟩
abbrev main_while0b_call3_v4 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_v105 : Ref sig .tc := ⟨.hbm, 144, rfl⟩
abbrev main_while0b_v106 : Ref sig .tc := ⟨.hbm, 145, rfl⟩
abbrev main_while0b_v107 : Ref sig .tc := ⟨.hbm, 146, rfl⟩
abbrev main_while0b_v108 : Ref sig .tc := ⟨.hbm, 147, rfl⟩
abbrev main_while0b_cst_23 : Ref sig .tc := ⟨.hbm, 148, rfl⟩
abbrev main_while0b_v109 : Ref sig .tc := ⟨.hbm, 149, rfl⟩
abbrev main_while0b_v110 : Ref sig .tc := ⟨.hbm, 150, rfl⟩
abbrev main_while0b_call4_c : Ref sig .tc := ⟨.hbm, 151, rfl⟩
abbrev main_while0b_call4_v0 : Ref sig .tc := ⟨.hbm, 152, rfl⟩
abbrev main_while0b_call4_v1 : Ref sig .tc := ⟨.hbm, 153, rfl⟩
abbrev main_while0b_call4_c_0 : Ref sig .tc := ⟨.hbm, 154, rfl⟩
abbrev main_while0b_call4_v2 : Ref sig .tc := ⟨.hbm, 155, rfl⟩
abbrev main_while0b_call4_v3 : Ref sig .tc := ⟨.hbm, 156, rfl⟩
abbrev main_while0b_call4_c_1 : Ref sig .tc := ⟨.hbm, 157, rfl⟩
abbrev main_while0b_v111 : Ref sig .tc := ⟨.hbm, 158, rfl⟩
abbrev main_while0b_cst_24 : Ref sig .tc := ⟨.hbm, 159, rfl⟩
abbrev main_while0b_v112 : Ref sig .tc := ⟨.hbm, 160, rfl⟩
abbrev main_while0b_v113 : Ref sig .tc := ⟨.hbm, 161, rfl⟩
abbrev main_while0b_v114 : Ref sig .tc := ⟨.hbm, 162, rfl⟩
abbrev main_while0b_v115 : Ref sig .tc := ⟨.hbm, 163, rfl⟩
abbrev main_while0b_v116 : Ref sig .tc := ⟨.hbm, 164, rfl⟩
abbrev main_while0b_call5_c : Ref sig .tc := ⟨.hbm, 165, rfl⟩
abbrev main_while0b_call5_v0 : Ref sig .tc := ⟨.hbm, 166, rfl⟩
abbrev main_while0b_call5_v1 : Ref sig .tc := ⟨.hbm, 167, rfl⟩
abbrev main_while0b_call5_c_0 : Ref sig .tc := ⟨.hbm, 168, rfl⟩
abbrev main_while0b_call5_v2 : Ref sig .tc := ⟨.hbm, 169, rfl⟩
abbrev main_while0b_call5_v3 : Ref sig .tc := ⟨.hbm, 170, rfl⟩
abbrev main_while0b_call5_c_1 : Ref sig .tc := ⟨.hbm, 171, rfl⟩
abbrev main_while0b_call5_c_2 : Ref sig .tc := ⟨.hbm, 172, rfl⟩
abbrev main_while0b_v117 : Ref sig .tc := ⟨.hbm, 173, rfl⟩
abbrev main_while0b_c_25 : Ref sig .tc := ⟨.hbm, 174, rfl⟩
abbrev main_while0b_v118 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_cst_11 : Ref sig .tc := ⟨.hbm, 184, rfl⟩
abbrev main_v69 : Ref sig .tc := ⟨.hbm, 185, rfl⟩
abbrev main_v70 : Ref sig .tc := ⟨.hbm, 186, rfl⟩
abbrev main_cst_12 : Ref sig .tc := ⟨.hbm, 187, rfl⟩
abbrev main_v71 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_cst_13 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_v81 : Ref sig .tc := ⟨.hbm, 199, rfl⟩
abbrev main_cst_14 : Ref sig .tc := ⟨.hbm, 200, rfl⟩
abbrev main_v82 : Ref sig .tc := ⟨.hbm, 201, rfl⟩

abbrev nD : Nat := 1
abbrev τ : Topo := Topo.v7x

variable {F : FTy → Type} [FloatOps F]

abbrev main_while0_count : Scf.Loop 32 := ⟨0#32, 32#32, 1#32⟩
-- ==== Whiten.lean ====
abbrev S16384x32x128 : Shape := ⟨3, ![16384, 32, 128]⟩
abbrev S32x32x128 : Shape := ⟨3, ![32, 32, 128]⟩
abbrev S32x128 : Shape := ⟨2, ![32, 128]⟩
abbrev S256x32x128 : Shape := ⟨3, ![256, 32, 128]⟩
abbrev S8x1x128 : Shape := ⟨3, ![8, 1, 128]⟩
abbrev S1x8x128 : Shape := ⟨3, ![1, 8, 128]⟩
abbrev S8x128 : Shape := ⟨2, ![8, 128]⟩
abbrev S8x8x128 : Shape := ⟨3, ![8, 8, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x32x128, .f32⟩
  | .hbm, ⟨1, _⟩ => ⟨S32x32x128, .f32⟩
  | .hbm, ⟨2, _⟩ => ⟨S32x128, .f32⟩
  | .hbm, ⟨3, _⟩ => ⟨S16384x32x128, .f32⟩
  | .local _ .vmem, ⟨0, _⟩ => ⟨S256x32x128, .f32⟩
  | .local _ .vmem, ⟨1, _⟩ => ⟨S256x32x128, .f32⟩
  | .local _ .vmem, ⟨2, _⟩ => ⟨S32x32x128, .f32⟩
  | .local _ .vmem, ⟨3, _⟩ => ⟨S32x128, .f32⟩
  | .local _ .vmem, ⟨4, _⟩ => ⟨S256x32x128, .f32⟩
  | .local _ .vmem, ⟨5, _⟩ => ⟨S256x32x128, .f32⟩
  | _, _ => ⟨S16384x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WhitenReferenceIdeal.lean ====
abbrev S16384x32x128 : Shape := ⟨3, ![16384, 32, 128]⟩
abbrev S32x32x128 : Shape := ⟨3, ![32, 32, 128]⟩
abbrev S32x128 : Shape := ⟨2, ![32, 128]⟩
abbrev S128x32x16384 : Shape := ⟨3, ![128, 32, 16384]⟩
abbrev S1x32x128 : Shape := ⟨3, ![1, 32, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x32x128, .f32⟩
  | .hbm, ⟨1, _⟩ => ⟨S32x32x128, .f32⟩
  | .hbm, ⟨2, _⟩ => ⟨S32x128, .f32⟩
  | .hbm, ⟨3, _⟩ => ⟨S128x32x16384, .f32⟩
  | .hbm, ⟨4, _⟩ => ⟨S16384x32x128, .f32⟩
  | .hbm, ⟨5, _⟩ => ⟨S1x32x128, .f32⟩
  | .hbm, ⟨6, _⟩ => ⟨S16384x32x128, .f32⟩
  | .hbm, ⟨7, _⟩ => ⟨S16384x32x128, .f32⟩
  | _, _ => ⟨S16384x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.StatsTile.lean ====
/- The vector steps of the statistics call's body at one grid point, read at an index. The body goes over its 256 rows in
   16 pairs of groups of eight. Of each group it forms, for every d, the products x[r, e] * x[r, d] of the rows of the group and
   sums the eight of them as a tree; the sums of a pair are added and the pairs summed in order. -/
module

public import proofs.«01_k».proof.Proof.Gen.StatsIdeal.Frame
public import Idealize.ShloMosaic.Lib.Pointwise

@[expose] public section

noncomputable section

namespace Cert.StatsValue

open Cert.StatsIdeal Cert.StatsIdeal.Gen Idealize.ShloMosaic Idealize.ShloMosaic.TcCoe Idealize.ShloMosaic.Tactic

variable {F : FTy → Type} [FloatOps F]

/-- Eight values summed as the body sums them: halves, then halves of halves, then the last two. -/
def tree (p : Fin 8 → F .bf16) : F .bf16 :=
  FloatOps.addf (FloatOps.addf (FloatOps.addf (p 0) (p 4)) (FloatOps.addf (p 2) (p 6)))
    (FloatOps.addf (FloatOps.addf (p 1) (p 5)) (FloatOps.addf (p 3) (p 7)))

/-- The product of columns `e` and `d` in row `r`. -/
def prod (x0 : Vec F S256x32x128 .f32) (d e : Fin 32) (k : Fin 128) (r : ℕ) : F .bf16 :=
  FloatOps.mulf (FloatOps.truncf .bf16 bitsLt_bf16_f32 (x0 (ix3 (Fin.ofNat 256 r) e k))) (FloatOps.truncf .bf16 bitsLt_bf16_f32 (x0 (ix3 (Fin.ofNat 256 r) d k)))

/-- The sum over pair `n` of groups of eight rows. -/
def pair (x0 : Vec F S256x32x128 .f32) (d e : Fin 32) (k : Fin 128) (n : ℕ) : F .f32 :=
  FloatOps.extf .f32 bitsLt_bf16_f32 (FloatOps.addf (tree fun j => prod x0 d e k (16 * n + j.val)) (tree fun j => prod x0 d e k (16 * n + 8 + j.val)))

/-- The first `n + 1` pairs, summed in order. -/
def acc2 (x0 : Vec F S256x32x128 .f32) (d e : Fin 32) (k : Fin 128) : ℕ → F .f32
  | 0 => pair x0 d e k 0
  | n + 1 => FloatOps.addf (acc2 x0 d e k n) (pair x0 d e k (n + 1))

/-- The sum over the eight rows of group `n`. -/
def group (x0 : Vec F S256x32x128 .f32) (n : ℕ) : FVec F S32x128 .f32 :=
  multiReduction (F := F) (φ := .f32) .add [0] S32x128 (fun i : S8x32x128.Idx => x0 (ix3 (Fin.ofNat 256 (8 * n + (i 0).val)) (i 1) (i 2)))
    0x00000000#32 reduces_S8x32x128_S32x128 (.inl rfl) rfl

/-- The first `n + 1` groups, summed in order. -/
def acc1 (x0 : Vec F S256x32x128 .f32) : ℕ → FVec F S32x128 .f32
  | 0 => group x0 0
  | n + 1 => addf (acc1 x0 n) (group x0 (n + 1))

/-- Eight rows of the block, as a function of the index. -/
theorem ld_rows (x0 : Vec F S256x32x128 .f32) (b0 : ℕ) (inb) (hb : b0 + 8 ≤ 256) :
    View.ld x0 (Rect.unit (s := S256x32x128) ![b0, 0, 0] S8x32x128.size inb)
      = fun i : S8x32x128.Idx => x0 (ix3 (Fin.ofNat 256 (b0 + (i 0).val)) (i 1) (i 2)) := by
  funext i
  refine congrArg x0 (funext fun j => Fin.ext ?_)
  have h0 : (i 0).val < 8 := (i 0).isLt
  match j with
  | ⟨0, _⟩ => show b0 + 1 * (i 0).val = (b0 + (i 0).val) % 256; omega
  | ⟨1, _⟩ => show 0 + 1 * (i 1).val = (i 1).val; omega
  | ⟨2, _⟩ => show 0 + 1 * (i 2).val = (i 2).val; omega

/-- Where a load of eight rows of the block reads. -/
theorem idx_rows (b0 : ℕ) (inb) (a : Fin 8) (e : Fin 32) (k : Fin 128) :
    (Rect.unit (s := S256x32x128) ![b0, 0, 0] S8x32x128.size inb).toLoadRect.idx (ix3 a e k) = ix3 (Fin.ofNat 256 (b0 + a.val)) e k := by
  have hb : b0 + 8 ≤ 256 := inb 0
  refine funext fun j => Fin.ext ?_
  match j with
  | ⟨0, _⟩ => show b0 + 1 * a.val = (b0 + a.val) % 256; omega
  | ⟨1, _⟩ => show 0 + 1 * e.val = e.val; omega
  | ⟨2, _⟩ => show 0 + 1 * k.val = k.val; omega

/-- One column of eight rows. -/
theorem col {α : Type} (v : S8x32x128.Idx → α) (d : ℕ) (h) (a : Fin 8) (k : Fin 128) (hd : d < 32) :
    extractStridedSlice S8x1x128 ![0, d, 0] v h (ix3 a 0 k) = v (ix3 a ⟨d, hd⟩ k) := by
  refine congrArg v (funext fun j => Fin.ext ?_)
  fin_cases j <;> simp [ix3]

/-! The columns from `e0` on: a slice of them, one column spread over them, and the tree of eight products at an index. -/

theorem cols24 {α : Type} (v : S8x32x128.Idx → α) (h) (a : Fin 8) (b : Fin 24) (k : Fin 128) :
    extractStridedSlice S8x24x128 ![0, 8, 0] v h (ix3 a b k) = v (ix3 a ⟨8 + b.val, by omega⟩ k) := by
  refine congrArg v (funext fun j => Fin.ext ?_)
  fin_cases j <;> simp [ix3]
theorem cols16 {α : Type} (v : S8x32x128.Idx → α) (h) (a : Fin 8) (b : Fin 16) (k : Fin 128) :
    extractStridedSlice S8x16x128 ![0, 16, 0] v h (ix3 a b k) = v (ix3 a ⟨16 + b.val, by omega⟩ k) := by
  refine congrArg v (funext fun j => Fin.ext ?_)
  fin_cases j <;> simp [ix3]
theorem cols8 {α : Type} (v : S8x32x128.Idx → α) (h) (a : Fin 8) (b : Fin 8) (k : Fin 128) :
    extractStridedSlice S8x8x128 ![0, 24, 0] v h (ix3 a b k) = v (ix3 a ⟨24 + b.val, by omega⟩ k) := by
  refine congrArg v (funext fun j => Fin.ext ?_)
  fin_cases j <;> simp [ix3]

theorem spread32 {α : Type} (v : S8x1x128.Idx → α) (h) (a : Fin 8) (b : Fin 32) (k : Fin 128) :
    broadcastTo S8x32x128 v h (ix3 a b k) = v (ix3 a 0 k) := by pointwise
theorem spread24 {α : Type} (v : S8x1x128.Idx → α) (h) (a : Fin 8) (b : Fin 24) (k : Fin 128) :
    broadcastTo S8x24x128 v h (ix3 a b k) = v (ix3 a 0 k) := by pointwise
theorem spread16 {α : Type} (v : S8x1x128.Idx → α) (h) (a : Fin 8) (b : Fin 16) (k : Fin 128) :
    broadcastTo S8x16x128 v h (ix3 a b k) = v (ix3 a 0 k) := by pointwise
theorem spread8 {α : Type} (v : S8x1x128.Idx → α) (h) (a : Fin 8) (b : Fin 8) (k : Fin 128) :
    broadcastTo S8x8x128 v h (ix3 a b k) = v (ix3 a 0 k) := by pointwise

theorem tree32 (V : FVec F S8x32x128 .bf16) (h1 h2 h3 h4 h5 h6 h7 h8) (b : Fin 32) (k : Fin 128) :
    addf (shapeCast S32x128 (extractStridedSlice S1x32x128 ![0, 0, 0]
        (addf (extractStridedSlice S2x32x128 ![0, 0, 0] (addf (extractStridedSlice S4x32x128 ![0, 0, 0] V h1) (extractStridedSlice S4x32x128 ![4, 0, 0] V h2)) h3)
          (extractStridedSlice S2x32x128 ![2, 0, 0] (addf (extractStridedSlice S4x32x128 ![0, 0, 0] V h1) (extractStridedSlice S4x32x128 ![4, 0, 0] V h2)) h4)) h5) h6)
      (shapeCast S32x128 (extractStridedSlice S1x32x128 ![1, 0, 0]
        (addf (extractStridedSlice S2x32x128 ![0, 0, 0] (addf (extractStridedSlice S4x32x128 ![0, 0, 0] V h1) (extractStridedSlice S4x32x128 ![4, 0, 0] V h2)) h3)
          (extractStridedSlice S2x32x128 ![2, 0, 0] (addf (extractStridedSlice S4x32x128 ![0, 0, 0] V h1) (extractStridedSlice S4x32x128 ![4, 0, 0] V h2)) h4)) h7) h8)
      (ix2 b k) = tree fun j => V (ix3 j b k) := by
  pointwise; rfl

theorem tree24 (V : FVec F S8x24x128 .bf16) (h1 h2 h3 h4 h5 h6 h7 h8) (b : Fin 24) (k : Fin 128) :
    addf (shapeCast S24x128 (extractStridedSlice S1x24x128 ![0, 0, 0]
        (addf (extractStridedSlice S2x24x128 ![0, 0, 0] (addf (extractStridedSlice S4x24x128 ![0, 0, 0] V h1) (extractStridedSlice S4x24x128 ![4, 0, 0] V h2)) h3)
          (extractStridedSlice S2x24x128 ![2, 0, 0] (addf (extractStridedSlice S4x24x128 ![0, 0, 0] V h1) (extractStridedSlice S4x24x128 ![4, 0, 0] V h2)) h4)) h5) h6)
      (shapeCast S24x128 (extractStridedSlice S1x24x128 ![1, 0, 0]
        (addf (extractStridedSlice S2x24x128 ![0, 0, 0] (addf (extractStridedSlice S4x24x128 ![0, 0, 0] V h1) (extractStridedSlice S4x24x128 ![4, 0, 0] V h2)) h3)
          (extractStridedSlice S2x24x128 ![2, 0, 0] (addf (extractStridedSlice S4x24x128 ![0, 0, 0] V h1) (extractStridedSlice S4x24x128 ![4, 0, 0] V h2)) h4)) h7) h8)
      (ix2 b k) = tree fun j => V (ix3 j b k) := by
  pointwise; rfl

theorem tree16 (V : FVec F S8x16x128 .bf16) (h1 h2 h3 h4 h5 h6 h7 h8) (b : Fin 16) (k : Fin 128) :
    addf (shapeCast S16x128 (extractStridedSlice S1x16x128 ![0, 0, 0]
        (addf (extractStridedSlice S2x16x128 ![0, 0, 0] (addf (extractStridedSlice S4x16x128 ![0, 0, 0] V h1) (extractStridedSlice S4x16x128 ![4, 0, 0] V h2)) h3)
          (extractStridedSlice S2x16x128 ![2, 0, 0] (addf (extractStridedSlice S4x16x128 ![0, 0, 0] V h1) (extractStridedSlice S4x16x128 ![4, 0, 0] V h2)) h4)) h5) h6)
      (shapeCast S16x128 (extractStridedSlice S1x16x128 ![1, 0, 0]
        (addf (extractStridedSlice S2x16x128 ![0, 0, 0] (addf (extractStridedSlice S4x16x128 ![0, 0, 0] V h1) (extractStridedSlice S4x16x128 ![4, 0, 0] V h2)) h3)
          (extractStridedSlice S2x16x128 ![2, 0, 0] (addf (extractStridedSlice S4x16x128 ![0, 0, 0] V h1) (extractStridedSlice S4x16x128 ![4, 0, 0] V h2)) h4)) h7) h8)
      (ix2 b k) = tree fun j => V (ix3 j b k) := by
  pointwise; rfl

theorem tree8 (V : FVec F S8x8x128 .bf16) (h1 h2 h3 h4 h5 h6 h7 h8) (b : Fin 8) (k : Fin 128) :
    addf (shapeCast S8x128 (extractStridedSlice S1x8x128 ![0, 0, 0]
        (addf (extractStridedSlice S2x8x128 ![0, 0, 0] (addf (extractStridedSlice S4x8x128 ![0, 0, 0] V h1) (extractStridedSlice S4x8x128 ![4, 0, 0] V h2)) h3)
          (extractStridedSlice S2x8x128 ![2, 0, 0] (addf (extractStridedSlice S4x8x128 ![0, 0, 0] V h1) (extractStridedSlice S4x8x128 ![4, 0, 0] V h2)) h4)) h5) h6)
      (shapeCast S8x128 (extractStridedSlice S1x8x128 ![1, 0, 0]
        (addf (extractStridedSlice S2x8x128 ![0, 0, 0] (addf (extractStridedSlice S4x8x128 ![0, 0, 0] V h1) (extractStridedSlice S4x8x128 ![4, 0, 0] V h2)) h3)
          (extractStridedSlice S2x8x128 ![2, 0, 0] (addf (extractStridedSlice S4x8x128 ![0, 0, 0] V h1) (extractStridedSlice S4x8x128 ![4, 0, 0] V h2)) h4)) h7) h8)
      (ix2 b k) = tree fun j => V (ix3 j b k) := by
  pointwise; rfl

/-- A pair's sum at an index. -/
theorem pair_apply {s : Shape} (u v : FVec F s .bf16) (h) (i : s.Idx) :
    extf .f32 (addf u v) h i = FloatOps.extf .f32 h (FloatOps.addf (u i) (v i)) := rfl

/-- The sum of two pairs at an index. -/
theorem add32_apply {s : Shape} (u v : FVec F s .f32) (i : s.Idx) : addf u v i = FloatOps.addf (u i) (v i) := rfl

/-! A row of the result with its unit axes put on, and a row read back with them taken off. -/

theorem put32 {α : Type} (v : S32x128.Idx → α) (h) (a c : Fin 1) (b : Fin 32) (k : Fin 128) :
    shapeCast S1x1x32x128 v h (ix4 a c b k) = v (ix2 b k) := by
  obtain rfl : a = 0 := Subsingleton.elim _ _
  obtain rfl : c = 0 := Subsingleton.elim _ _
  pointwise
theorem take32 {α : Type} (v : S1x1x32x128.Idx → α) (h) (b : Fin 32) (k : Fin 128) :
    shapeCast S32x128 v h (ix2 b k) = v (ix4 0 0 b k) := by pointwise
theorem put24 {α : Type} (v : S24x128.Idx → α) (h) (a c : Fin 1) (b : Fin 24) (k : Fin 128) :
    shapeCast S1x1x24x128 v h (ix4 a c b k) = v (ix2 b k) := by
  obtain rfl : a = 0 := Subsingleton.elim _ _
  obtain rfl : c = 0 := Subsingleton.elim _ _
  pointwise
theorem take24 {α : Type} (v : S1x1x24x128.Idx → α) (h) (b : Fin 24) (k : Fin 128) :
    shapeCast S24x128 v h (ix2 b k) = v (ix4 0 0 b k) := by pointwise
theorem put16 {α : Type} (v : S16x128.Idx → α) (h) (a c : Fin 1) (b : Fin 16) (k : Fin 128) :
    shapeCast S1x1x16x128 v h (ix4 a c b k) = v (ix2 b k) := by
  obtain rfl : a = 0 := Subsingleton.elim _ _
  obtain rfl : c = 0 := Subsingleton.elim _ _
  pointwise
theorem take16 {α : Type} (v : S1x1x16x128.Idx → α) (h) (b : Fin 16) (k : Fin 128) :
    shapeCast S16x128 v h (ix2 b k) = v (ix4 0 0 b k) := by pointwise
theorem put8 {α : Type} (v : S8x128.Idx → α) (h) (a c : Fin 1) (b : Fin 8) (k : Fin 128) :
    shapeCast S1x1x8x128 v h (ix4 a c b k) = v (ix2 b k) := by
  obtain rfl : a = 0 := Subsingleton.elim _ _
  obtain rfl : c = 0 := Subsingleton.elim _ _
  pointwise
theorem take8 {α : Type} (v : S1x1x8x128.Idx → α) (h) (b : Fin 8) (k : Fin 128) :
    shapeCast S8x128 v h (ix2 b k) = v (ix4 0 0 b k) := by pointwise
theorem put1 {α : Type} (v : S32x128.Idx → α) (h) (a : Fin 1) (b : Fin 32) (k : Fin 128) :
    shapeCast S1x32x128 v h (ix3 a b k) = v (ix2 b k) := by
  obtain rfl : a = 0 := Subsingleton.elim _ _
  pointwise
theorem take1 {α : Type} (v : S1x32x128.Idx → α) (h) (b : Fin 32) (k : Fin 128) :
    shapeCast S32x128 v h (ix2 b k) = v (ix3 0 b k) := by pointwise

/-- A piece of the second result's block, row `d` from column `e0` on, agrees with `G` if its rows do. -/
theorem of_row {α : Type} (G : S1x32x32x128.Idx → α) (d e0 n : ℕ) (inb) (P : (⟨4, ![1, 1, n, 128]⟩ : Shape).Idx → α) (hd : d < 32) (hn : e0 + n = 32)
    (h : ∀ (b : Fin n) (k : Fin 128), P (ix4 0 0 b k) = G (ix4 0 ⟨d, hd⟩ ⟨e0 + b.val, by omega⟩ k)) :
    ∀ x, P x = G ((Rect.unit (s := S1x32x32x128) ![0, d, e0, 0] ![1, 1, n, 128] inb).emb x) := by
  intro x
  obtain ⟨a, c, b, k, rfl⟩ : ∃ (a c : Fin 1) (b : Fin n) (k : Fin 128), x = ix4 a c b k := ⟨x 0, x 1, x 2, x 3, eq_ix4 x⟩
  obtain rfl : a = 0 := Subsingleton.elim _ _
  obtain rfl : c = 0 := Subsingleton.elim _ _
  rw [h b k]
  refine congrArg G (funext fun j => Fin.ext ?_)
  match j with
  | ⟨0, _⟩ => rfl
  | ⟨1, _⟩ => show d = d + 1 * 0; omega
  | ⟨2, _⟩ => show e0 + b.val = e0 + 1 * b.val; omega
  | ⟨3, _⟩ => show k.val = 0 + 1 * k.val; omega

/-- An element in a row's written part lies in the row's piece or in a later one. -/
theorem mem_row {Val : EltTy → Type} {e : EltTy} (y : S1x32x32x128.Idx) (hy : (y 1).val / 8 * 8 ≤ (y 2).val) (d e0 n : ℕ) (inb) (w)
    (L : List (View.Piece Val S1x32x32x128 e)) (he : e0 ≤ d / 8 * 8) (hn : e0 + n = 32)
    (h : (y 1).val ≠ d → ∃ p ∈ L, y ∈ p.1.set) :
    ∃ p ∈ (⟨Rect.unit (s := S1x32x32x128) ![0, d, e0, 0] ![1, 1, n, 128] inb, w⟩ : View.Piece Val S1x32x32x128 e) :: L, y ∈ p.1.set := by
  by_cases hd : (y 1).val = d
  · refine ⟨_, List.mem_cons_self, (Rect.mem_set_unit (inb := inb)).2 fun a => ?_⟩
    have h0 : (y 0).val < 1 := (y 0).isLt
    have h2 : (y 2).val < 32 := (y 2).isLt
    have h3 : (y 3).val < 128 := (y 3).isLt
    match a with
    | ⟨0, _⟩ => exact ⟨Nat.zero_le _, by show (y 0).val < 0 + 1; omega⟩
    | ⟨1, _⟩ => exact ⟨by show d ≤ (y 1).val; omega, by show (y 1).val < d + 1; omega⟩
    | ⟨2, _⟩ => exact ⟨by show e0 ≤ (y 2).val; rw [hd] at hy; omega, by show (y 2).val < e0 + n; omega⟩
    | ⟨3, _⟩ => exact ⟨Nat.zero_le _, by show (y 3).val < 0 + 128; omega⟩
  · obtain ⟨p, hp, hm⟩ := h hd
    exact ⟨p, List.mem_cons_of_mem _ hp, hm⟩

/-! Where a load of a row of the second result's block reads. -/

theorem idx_row32 (d : ℕ) (inb) (b : Fin 32) (k : Fin 128) (hd : d < 32) :
    (Rect.unit (s := S1x32x32x128) ![0, d, 0, 0] S1x1x32x128.size inb).toLoadRect.idx (ix4 0 0 b k) = ix4 0 ⟨d, hd⟩ ⟨0 + b.val, by omega⟩ k := by
  refine funext fun j => Fin.ext ?_
  match j with
  | ⟨0, _⟩ => rfl
  | ⟨1, _⟩ => show d + 1 * 0 = d; omega
  | ⟨2, _⟩ => show 0 + 1 * b.val = 0 + b.val; omega
  | ⟨3, _⟩ => show 0 + 1 * k.val = k.val; omega
theorem idx_row24 (d : ℕ) (inb) (b : Fin 24) (k : Fin 128) (hd : d < 32) :
    (Rect.unit (s := S1x32x32x128) ![0, d, 8, 0] S1x1x24x128.size inb).toLoadRect.idx (ix4 0 0 b k) = ix4 0 ⟨d, hd⟩ ⟨8 + b.val, by omega⟩ k := by
  refine funext fun j => Fin.ext ?_
  match j with
  | ⟨0, _⟩ => rfl
  | ⟨1, _⟩ => show d + 1 * 0 = d; omega
  | ⟨2, _⟩ => show 8 + 1 * b.val = 8 + b.val; omega
  | ⟨3, _⟩ => show 0 + 1 * k.val = k.val; omega
theorem idx_row16 (d : ℕ) (inb) (b : Fin 16) (k : Fin 128) (hd : d < 32) :
    (Rect.unit (s := S1x32x32x128) ![0, d, 16, 0] S1x1x16x128.size inb).toLoadRect.idx (ix4 0 0 b k) = ix4 0 ⟨d, hd⟩ ⟨16 + b.val, by omega⟩ k := by
  refine funext fun j => Fin.ext ?_
  match j with
  | ⟨0, _⟩ => rfl
  | ⟨1, _⟩ => show d + 1 * 0 = d; omega
  | ⟨2, _⟩ => show 16 + 1 * b.val = 16 + b.val; omega
  | ⟨3, _⟩ => show 0 + 1 * k.val = k.val; omega
theorem idx_row8 (d : ℕ) (inb) (b : Fin 8) (k : Fin 128) (hd : d < 32) :
    (Rect.unit (s := S1x32x32x128) ![0, d, 24, 0] S1x1x8x128.size inb).toLoadRect.idx (ix4 0 0 b k) = ix4 0 ⟨d, hd⟩ ⟨24 + b.val, by omega⟩ k := by
  refine funext fun j => Fin.ext ?_
  match j with
  | ⟨0, _⟩ => rfl
  | ⟨1, _⟩ => show d + 1 * 0 = d; omega
  | ⟨2, _⟩ => show 24 + 1 * b.val = 24 + b.val; omega
  | ⟨3, _⟩ => show 0 + 1 * k.val = k.val; omega

/-- The first result's block, stored and loaded whole. -/
theorem of_whole {α : Type} (G : S1x32x128.Idx → α) (inb) (P : S1x32x128.Idx → α) (h : ∀ (b : Fin 32) (k : Fin 128), P (ix3 0 b k) = G (ix3 0 b k)) :
    ∀ x, P x = G ((Rect.unit (s := S1x32x128) ![0, 0, 0] S1x32x128.size inb).emb x) := by
  intro x
  obtain ⟨a, b, k, rfl⟩ : ∃ (a : Fin 1) (b : Fin 32) (k : Fin 128), x = ix3 a b k := ⟨x 0, x 1, x 2, eq_ix3 x⟩
  obtain rfl : a = 0 := Subsingleton.elim _ _
  rw [h b k]
  refine congrArg G (funext fun j => Fin.ext ?_)
  match j with
  | ⟨0, _⟩ => rfl
  | ⟨1, _⟩ => show b.val = 0 + 1 * b.val; omega
  | ⟨2, _⟩ => show k.val = 0 + 1 * k.val; omega

theorem ld_whole (y : Vec F S1x32x128 .f32) (inb) : View.ld y (Rect.unit (s := S1x32x128) ![0, 0, 0] S1x32x128.size inb) = y :=
  View.ld_unit_zero (by decide) _ _

end Cert.StatsValue

end
-- ==== Proof.StatsRunA.lean ====
/- The body's run at the first point of a half: both sums begin. -/
module

public import proofs.«01_k».proof.Proof.Gen.StatsIdeal.Skeleton
public import proofs.«01_k».proof.Proof.StatsTile

@[expose] public section

set_option maxRecDepth 16384

noncomputable section

namespace Cert.StatsValue

open Cert.StatsIdeal Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 12000000 in
/-- Both results' blocks take this point's sums. -/
theorem runA (c : Dev nD) (i : grid0.Coords) (arg2 : Memref sig .tc .vmem S256x32x128 .f32) (harg2 : arg2.IsWhole)
    (arg3 : Memref sig .tc .vmem S1x32x128 .f32) (harg3 : arg3.IsWhole) (arg4 : Memref sig .tc .vmem S1x32x32x128 .f32)
    (harg4 : arg4.IsWhole) (hc0 : k0_cond1 i = 1#1) (hc1 : ¬k0_cond2 i = 1#1)
    (x0 : Vec F S256x32x128 .f32) (y1 : Vec F S1x32x128 .f32) (y2 : Vec F S1x32x32x128 .f32) :
      ∀ (E : Set ℕ) (K : PUnit → sProp 𝕄),
        iprop(owns (c : Thread nD τ) arg2 fullShare x0 ∗ owns (c : Thread nD τ) arg3 fullShare y1 ∗ owns (c : Thread nD τ) arg4 fullShare y2
            ∗ (iprop(owns (c : Thread nD τ) arg2 fullShare x0
                ∗ (∃ d, ⌜∀ y, d y = acc1 x0 31 (ix2 (y 1) (y 2))⌝ ∗ owns (c : Thread nD τ) arg3 fullShare d)
                ∗ (∃ d, ⌜∀ y, (y 1).val / 8 * 8 ≤ (y 2).val → d y = acc2 x0 (y 1) (y 2) (y 3) 15⌝ ∗ owns (c : Thread nD τ) arg4 fullShare d)) -∗ K ⟨⟩))
          ⊢ wp frame (wpE (defs₀ (F := F)) Variants.none c none) E (cc0_cluster_stats i arg2 harg2 arg3 harg3 arg4 harg4) K := by
  intro E K
  simp only [cc0_cluster_stats_eq_skeleton]; unfold cc0_cluster_stats_skel
  simp only [k0_part298_eq_skeleton, k0_part294_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part295_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part296_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part297_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; swap
    · iexists _; isplitr; swap; · iexact H1
      ipureintro; rfl
    ipureintro
    intro y
    refine View.read_writes_apply_of_pieces (Val := Elt F) arg3.view (harg3.unread y1) (fun y : S1x32x128.Idx => acc1 x0 31 (ix2 (y 1) (y 2))) _ ?_ y ?_; swap
    · exact ⟨_, List.mem_cons_self, View.mem_set_unit_zero (by decide) (by decide) _⟩
    refine List.forall_mem_cons.2 ⟨?_, fun p hp => absurd hp List.not_mem_nil⟩
    refine of_whole (fun y : S1x32x128.Idx => acc1 x0 31 (ix2 (y 1) (y 2))) (by decide) _ fun b k => ?_
    have hl : ∀ (x : FVec F S256x32x128 .f32) b0 inb hb, _ := fun x b0 inb hb => ld_rows x b0 inb hb
    show _ = acc1 x0 31 (ix2 b k)
    sl_unfold_run_names
    unfold_payloads
    simp only [View.readAt_eq_ld, Memref.IsWhole.read_unread, hl, put1, take1, add32_apply, Nat.reduceAdd, Nat.reduceLeDiff, Nat.reduceMul, acc1, group]

  · iexists _; isplitr; swap
    · iexists _; isplitr; swap; · iexact H2
      ipureintro; rfl
    ipureintro
    intro y hy
    refine View.read_writes_apply_of_pieces (Val := Elt F) arg4.view (harg4.unread y2) (fun y : S1x32x32x128.Idx => acc2 x0 (y 1) (y 2) (y 3) 15) _ ?_ y ?_
    · clear hy y
      have hr := @idx_rows
      have hr32 := @idx_row32
      have hr24 := @idx_row24
      have hr16 := @idx_row16
      have hr8 := @idx_row8
      repeat
        refine List.forall_mem_cons.2 ⟨of_row (fun y : S1x32x32x128.Idx => acc2 x0 (y 1) (y 2) (y 3) 15) _ _ _ (by decide) _ (by decide) (by decide) fun b k => ?_, ?_⟩
        · sl_unfold_run_names
          unfold_payloads
          simp only [View.readAt_eq_ld, Memref.IsWhole.read_unread, put32, put24, put16, put8, take32, take24, take16, take8, View.ld, hr, hr32, hr24, hr16, hr8,
            add32_apply, pair_apply, tree32, tree24, tree16, tree8, mulf_apply, truncf_apply, spread32, spread24, spread16, spread8,
            cols24, cols16, cols8, col, Nat.zero_add, Fin.eta, Nat.reduceMul, Nat.reduceAdd, Nat.reduceLeDiff, Nat.reduceLT, acc2, pair, prod]
          rfl
      exact fun p hp => absurd hp List.not_mem_nil
    · repeat refine mem_row y hy _ _ _ (by decide) _ _ (by decide) (by decide) fun _ => ?_
      have h1 : (y 1).val < 32 := (y 1).isLt
      exfalso
      omega

end Cert.StatsValue

end
-- ==== Proof.StatsRunB.lean ====
/- The body's run at a point other than the first of a half: both sums are added to. -/
module

public import proofs.«01_k».proof.Proof.Gen.StatsIdeal.Skeleton
public import proofs.«01_k».proof.Proof.StatsTile

@[expose] public section

set_option maxRecDepth 16384

noncomputable section

namespace Cert.StatsValue

open Cert.StatsIdeal Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 12000000 in
/-- Both results' blocks gain this point's sums. -/
theorem runB (c : Dev nD) (i : grid0.Coords) (arg2 : Memref sig .tc .vmem S256x32x128 .f32) (harg2 : arg2.IsWhole)
    (arg3 : Memref sig .tc .vmem S1x32x128 .f32) (harg3 : arg3.IsWhole) (arg4 : Memref sig .tc .vmem S1x32x32x128 .f32)
    (harg4 : arg4.IsWhole) (hc0 : ¬k0_cond1 i = 1#1) (hc1 : k0_cond2 i = 1#1)
    (x0 : Vec F S256x32x128 .f32) (y1 : Vec F S1x32x128 .f32) (y2 : Vec F S1x32x32x128 .f32) :
      ∀ (E : Set ℕ) (K : PUnit → sProp 𝕄),
        iprop(owns (c : Thread nD τ) arg2 fullShare x0 ∗ owns (c : Thread nD τ) arg3 fullShare y1 ∗ owns (c : Thread nD τ) arg4 fullShare y2
            ∗ (iprop(owns (c : Thread nD τ) arg2 fullShare x0
                ∗ (∃ d, ⌜∀ y, d y = FloatOps.addf (y1 y) (acc1 x0 31 (ix2 (y 1) (y 2)))⌝ ∗ owns (c : Thread nD τ) arg3 fullShare d)
                ∗ (∃ d, ⌜∀ y, (y 1).val / 8 * 8 ≤ (y 2).val → d y = FloatOps.addf (y2 y) (acc2 x0 (y 1) (y 2) (y 3) 15)⌝ ∗ owns (c : Thread nD τ) arg4 fullShare d)) -∗ K ⟨⟩))
          ⊢ wp frame (wpE (defs₀ (F := F)) Variants.none c none) E (cc0_cluster_stats i arg2 harg2 arg3 harg3 arg4 harg4) K := by
  intro E K
  simp only [cc0_cluster_stats_eq_skeleton]; unfold cc0_cluster_stats_skel
  simp only [k0_part298_eq_skeleton, k0_part294_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part295_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part296_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part297_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; swap
    · iexists _; isplitr; swap; · iexact H1
      ipureintro; rfl
    ipureintro
    intro y
    refine View.read_writes_apply_of_pieces (Val := Elt F) arg3.view (harg3.unread y1) (fun y : S1x32x128.Idx => FloatOps.addf (y1 y) (acc1 x0 31 (ix2 (y 1) (y 2)))) _ ?_ y ?_; swap
    · exact ⟨_, List.mem_cons_self, View.mem_set_unit_zero (by decide) (by decide) _⟩
    refine List.forall_mem_cons.2 ⟨?_, fun p hp => absurd hp List.not_mem_nil⟩
    refine of_whole (fun y : S1x32x128.Idx => FloatOps.addf (y1 y) (acc1 x0 31 (ix2 (y 1) (y 2)))) (by decide) _ fun b k => ?_
    have hl : ∀ (x : FVec F S256x32x128 .f32) b0 inb hb, _ := fun x b0 inb hb => ld_rows x b0 inb hb
    show _ = FloatOps.addf (y1 (ix3 0 b k)) (acc1 x0 31 (ix2 b k))
    sl_unfold_run_names
    unfold_payloads
    simp only [View.readAt_eq_ld, Memref.IsWhole.read_unread, hl, put1, take1, add32_apply, Nat.reduceAdd, Nat.reduceLeDiff, Nat.reduceMul, acc1, group]
    refine congrArg₂ _ (congrFun (ld_whole y1 _) _) ?_
    rfl
  · iexists _; isplitr; swap
    · iexists _; isplitr; swap; · iexact H2
      ipureintro; rfl
    ipureintro
    intro y hy
    refine View.read_writes_apply_of_pieces (Val := Elt F) arg4.view (harg4.unread y2) (fun y : S1x32x32x128.Idx => FloatOps.addf (y2 y) (acc2 x0 (y 1) (y 2) (y 3) 15)) _ ?_ y ?_
    · clear hy y
      have hr := @idx_rows
      have hr32 := @idx_row32
      have hr24 := @idx_row24
      have hr16 := @idx_row16
      have hr8 := @idx_row8
      repeat
        refine List.forall_mem_cons.2 ⟨of_row (fun y : S1x32x32x128.Idx => FloatOps.addf (y2 y) (acc2 x0 (y 1) (y 2) (y 3) 15)) _ _ _ (by decide) _ (by decide) (by decide) fun b k => ?_, ?_⟩
        · sl_unfold_run_names
          unfold_payloads
          simp only [View.readAt_eq_ld, Memref.IsWhole.read_unread, put32, put24, put16, put8, take32, take24, take16, take8, View.ld, hr, hr32, hr24, hr16, hr8,
            add32_apply, pair_apply, tree32, tree24, tree16, tree8, mulf_apply, truncf_apply, spread32, spread24, spread16, spread8,
            cols24, cols16, cols8, col, Nat.zero_add, Fin.eta, Nat.reduceMul, Nat.reduceAdd, Nat.reduceLeDiff, Nat.reduceLT, acc2, pair, prod]
          rfl
      exact fun p hp => absurd hp List.not_mem_nil
    · repeat refine mem_row y hy _ _ _ (by decide) _ _ (by decide) (by decide) fun _ => ?_
      have h1 : (y 1).val < 32 := (y 1).isLt
      exfalso
      omega

end Cert.StatsValue

end
-- ==== Proof.StatsRun.lean ====
/- The statistics call's run. Of the second result's block only the columns from 8 * (d / 8) on are written, so what a point leaves
   there is stated by a predicate: on those columns the block holds the running sum over the points of its half so far. -/
module

public import proofs.«01_k».proof.Proof.StatsRunA
public import proofs.«01_k».proof.Proof.StatsRunB
public import Idealize.ShloMosaic.Lib.Pipeline.DatRel
public import Idealize.ShloMosaic.Lib.WordCmp
public import Idealize.ShloMosaic.Lib.Claim

@[expose] public section

noncomputable section

namespace Cert.StatsValue

open Cert.StatsIdeal Cert.StatsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `t` of the grid. -/
def pt (t : ℕ) : Fin cfg0.N := ⟨t % 64, lt_of_lt_of_eq (Nat.mod_lt _ (by decide)) N_0.symm⟩

theorem pt_val (t : Fin cfg0.N) : pt t.val = t := Fin.ext (Nat.mod_eq_of_lt (lt_of_lt_of_eq t.isLt N_0))

/-- The rows of the point `j` of half `p`. -/
def rows (c : Dev nD) (p j : ℕ) : Vec F S256x32x128 .f32 := iblk m c 0 (pt (32 * p + j))

/-- The first result's sum over the first `j + 1` points of half `p`. -/
def sum1 (c : Dev nD) (p : ℕ) (b : Fin 32) (k : Fin 128) : ℕ → F .f32
  | 0 => acc1 (rows m c p 0) 31 (ix2 b k)
  | j + 1 => FloatOps.addf (sum1 c p b k j) (acc1 (rows m c p (j + 1)) 31 (ix2 b k))

/-- The second result's. -/
def sum2 (c : Dev nD) (p : ℕ) (d e : Fin 32) (k : Fin 128) : ℕ → F .f32
  | 0 => acc2 (rows m c p 0) d e k 15
  | j + 1 => FloatOps.addf (sum2 c p d e k j) (acc2 (rows m c p (j + 1)) d e k 15)

/-- What the first result's block holds after point `t`. -/
def Left1 (c : Dev nD) (t : ℕ) (X : Vec F S1x32x128 .f32) : Prop :=
  ∀ y, X y = sum1 m c (t / 32) (y 1) (y 2) (t % 32)

/-- What the second result's block holds after point `t`, where it is written. -/
def Left2 (c : Dev nD) (t : ℕ) (X : Vec F S1x32x32x128 .f32) : Prop :=
  ∀ y, (y 1).val / 8 * 8 ≤ (y 2).val → X y = sum2 m c (t / 32) (y 1) (y 2) (y 3) (t % 32)

theorem rows_self (c : Dev nD) (t : Fin cfg0.N) : rows m c (t.val / 32) (t.val % 32) = iblk m c 0 t := by
  unfold rows
  rw [show 32 * (t.val / 32) + t.val % 32 = t.val from Nat.div_add_mod _ _, pt_val]

/-- A half's first point. -/
theorem left1_zero (c : Dev nD) (t : Fin cfg0.N) (h : t.val % 32 = 0) (X : Vec F S1x32x128 .f32)
    (hX : ∀ y, X y = acc1 (iblk m c 0 t) 31 (ix2 (y 1) (y 2))) : Left1 m c t.val X := fun y => by
  rw [hX, ← rows_self m c t, h]; rfl

theorem left2_zero (c : Dev nD) (t : Fin cfg0.N) (h : t.val % 32 = 0) (X : Vec F S1x32x32x128 .f32)
    (hX : ∀ y, (y 1).val / 8 * 8 ≤ (y 2).val → X y = acc2 (iblk m c 0 t) (y 1) (y 2) (y 3) 15) : Left2 m c t.val X := fun y hy => by
  rw [hX y hy, ← rows_self m c t, h]; rfl

/-- A later point of a half. -/
theorem left1_succ (c : Dev nD) (t : Fin cfg0.N) (h : t.val % 32 ≠ 0) (Y X : Vec F S1x32x128 .f32) (hY : Left1 m c (t.val - 1) Y)
    (hX : ∀ y, X y = FloatOps.addf (Y y) (acc1 (iblk m c 0 t) 31 (ix2 (y 1) (y 2)))) : Left1 m c t.val X := fun y => by
  rw [hX, hY, ← rows_self m c t, show (t.val - 1) / 32 = t.val / 32 by omega, show t.val % 32 = (t.val - 1) % 32 + 1 by omega]; rfl

theorem left2_succ (c : Dev nD) (t : Fin cfg0.N) (h : t.val % 32 ≠ 0) (Y X : Vec F S1x32x32x128 .f32) (hY : Left2 m c (t.val - 1) Y)
    (hX : ∀ y, (y 1).val / 8 * 8 ≤ (y 2).val → X y = FloatOps.addf (Y y) (acc2 (iblk m c 0 t) (y 1) (y 2) (y 3) 15)) :
    Left2 m c t.val X := fun y hy => by
  rw [hX y hy, hY y hy, ← rows_self m c t, show (t.val - 1) / 32 = t.val / 32 by omega, show t.val % 32 = (t.val - 1) % 32 + 1 by omega]; rfl

/-! ## The conditions -/

theorem first_iff : ∀ t : Fin cfg0.N, k0_cond1 (grid0.coords t) = 1#1 ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [k0_cond1, e0, e1]
    word_cmp
   : ∀ t : Fin grid0.N, k0_cond1 (grid0.coords t) = 1#1 ↔ t.val % 32 = 0)

theorem later_iff : ∀ t : Fin cfg0.N, k0_cond2 (grid0.coords t) = 1#1 ↔ 1 ≤ t.val % 32 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [k0_cond2, e0, e1]
    word_cmp
   : ∀ t : Fin grid0.N, k0_cond2 (grid0.coords t) = 1#1 ↔ 1 ≤ t.val % 32)

/-! ## The proof data -/

/-- The windows of the two results. -/
def marked : Fin 3 → Bool := fun w => w.val == 1 || w.val == 2

/-- What the body leaves in them. -/
def Leaves (c : Dev nD) (w : Fin cfg0.W) (t : Fin cfg0.N) : (((cfg0.win w).block.Idx → Elt F (cfg0.win w).elt)) → Prop :=
  match w with
  | ⟨0, _⟩ => fun _ => True
  | ⟨1, _⟩ => fun X => Left1 m c t.val X
  | ⟨2, _⟩ => fun X => Left2 m c t.val X

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]

theorem before0 (c : Dev nD) (t : Fin cfg0.N) (d) : (dats m 0 c).before 0 t d = iblk m c 0 t :=
  before0_0_of m (dats m 0 c) (A_eq m c 0) (after0 m c) t d

/-- The data with the results' windows held to `Leaves`. -/
abbrev rdat (c : Dev nD) : RDat τ (Elt F) Unit ℕ (UR sig nD τ) ℕ cfg0 c := (dats m 0 c).toRRel marked (Leaves m c)

/-- What a later point of a half finds in the first result's block is what the point before left. -/
theorem finds1 (c : Dev nD) (t : Fin cfg0.N) (h : t.val % 32 ≠ 0) (Y : Vec F S1x32x128 .f32) (hY : (rdat m c).Finds 1 t Y) :
    Left1 m c (t.val - 1) Y := by
  rcases ((rdat m c).finds_of_pos (w := 1) rfl (by omega) Y).mp hY with hf | hl
  · have := (flush0_1 _).mp hf
    simp only at this
    omega
  · exact (dats m 0 c).toRRel_leaves (fgt := marked) (Rl := Leaves m c) (w := 1) rfl hl

theorem finds2 (c : Dev nD) (t : Fin cfg0.N) (h : t.val % 32 ≠ 0) (Y : Vec F S1x32x32x128 .f32) (hY : (rdat m c).Finds 2 t Y) :
    Left2 m c (t.val - 1) Y := by
  rcases ((rdat m c).finds_of_pos (w := 2) rfl (by omega) Y).mp hY with hf | hl
  · have := (flush0_2 _).mp hf
    simp only at this
    omega
  · exact (dats m 0 c).toRRel_leaves (fgt := marked) (Rl := Leaves m c) (w := 2) rfl hl

/-! ## The body -/

/-- The windows' staging buffers at point `t`. -/
abbrev buf0 (t : Fin cfg0.N) : Memref sig .tc .vmem S256x32x128 .f32 := win0_0.stage (cfg0.slots t 0)
abbrev buf1 (t : Fin cfg0.N) : Memref sig .tc .vmem S1x32x128 .f32 := win0_1.stage (cfg0.slots t 1)
abbrev buf2 (t : Fin cfg0.N) : Memref sig .tc .vmem S1x32x32x128 .f32 := win0_2.stage (cfg0.slots t 2)

/-- What the body is given at point `t`, -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ Y, ⌜(rdat m c).Finds 1 t Y⌝ ∗ owns (c : Thread nD τ) (buf1 t) fullShare Y)
    ∗ (∃ Y, ⌜(rdat m c).Finds 2 t Y⌝ ∗ owns (c : Thread nD τ) (buf2 t) fullShare Y))

/-- and what it gives back. -/
def back (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ (∃ X, ⌜Left1 m c t.val X⌝ ∗ owns (c : Thread nD τ) (buf1 t) fullShare X)
    ∗ (∃ X, ⌜Left2 m c t.val X⌝ ∗ owns (c : Thread nD τ) (buf2 t) fullShare X))

set_option maxHeartbeats 1600000 in
theorem body_run (c : Dev nD) (t : Fin cfg0.N) :
    given m c t ⊢ wp frame (wpE (defs₀ (F := F)) Variants.none c none) Set.univ (bodyAt0 t) (fun _ => back m c t) := by
  unfold given back bodyAt0
  simp only [before0, after0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%Y1, %h1, H1⟩, ⟨%Y2, %h2, H2⟩⟩
  by_cases h0 : t.val % 32 = 0
  · iapply ((runA c (grid0.coords t) _ _ _ _ _ _ ((first_iff t).mpr h0) (fun h => by have := (later_iff t).mp h; omega) (iblk m c 0 t) Y1 Y2) Set.univ _)
    isplitl [H0]; · iexact H0
    isplitl [H1]; · iexact H1
    isplitl [H2]; · iexact H2
    iintro ⟨H0, ⟨%X1, %k1, H1⟩, ⟨%X2, %k2, H2⟩⟩
    isplitl [HΦ]; · iexact HΦ
    isplitl [Ho]; · iexact Ho
    isplitl [H0]; · iexact H0
    isplitl [H1]
    · iexists X1; isplitr
      · ipureintro; exact left1_zero m c t h0 X1 k1
      iexact H1
    iexists X2; isplitr
    · ipureintro; exact left2_zero m c t h0 X2 k2
    iexact H2
  · iapply ((runB c (grid0.coords t) _ _ _ _ _ _ (fun h => h0 ((first_iff t).mp h)) ((later_iff t).mpr (by omega)) (iblk m c 0 t) Y1 Y2) Set.univ _)
    isplitl [H0]; · iexact H0
    isplitl [H1]; · iexact H1
    isplitl [H2]; · iexact H2
    iintro ⟨H0, ⟨%X1, %k1, H1⟩, ⟨%X2, %k2, H2⟩⟩
    isplitl [HΦ]; · iexact HΦ
    isplitl [Ho]; · iexact Ho
    isplitl [H0]; · iexact H0
    isplitl [H1]
    · iexists X1; isplitr
      · ipureintro; exact left1_succ m c t h0 Y1 X1 (finds1 m c t h0 Y1 h1) k1
      iexact H1
    iexists X2; isplitr
    · ipureintro; exact left2_succ m c t h0 Y2 X2 (finds2 m c t h0 Y2 h2) k2
    iexact H2

theorem defs₀_row (t : Fin cfg0.N) :
    defs₀ (F := F) .tc cfg0.body (cfg0.bodyArgs t (cfg0.slots t)) = bodyAt0 t := by
  unfold defs₀; rw [Defs.onTc_tc]

theorem obligation (c : Dev nD) :
    BodyObligationRel (dats (F := F) m 0 c) (defs₀ (F := F)) Variants.none () Set.univ marked (Leaves m c) := fun t => by
  rw [bigSep_W0, bigSep_W0, defs₀_row]
  exact triple_restated (body_run m c t) rfl .rfl fun _ => .rfl

/-! ## The launch -/

set_option backward.isDefEq.respectTransparency.types false in
/-- Every execution ends, the arrays as the data say, every counter at zero. -/
theorem launched : θ_run defs (onTc (τ := τ) (main (F := F))) (s₀ m ρ) (fun r => RDat.FramePost (cfgs 0) (rdat m) (V m) r ∧ r.2.sem = fun _ => 0) :=
  RDat.θ_run_frame (Q' := _) cfgs (0 : Fin 1) launch0 defs₀ Variants.none (rdat m) m ρ main
    (hbody := fun c => (obligation m c).toRRel) (hshare := fun c => (dats m 0 c).share_full fun _ => rfl)
    (howed := fun _ _ => rfl) (V := V m) (hmain := hmain m Variants.none) (hA := A_eq m) (hΦ := fun _ _ => rfl)

/-- The argument ends unchanged, every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (RDat.FramePost.arr_in h.1 c 0 rfl).trans ((A_eq m c 0).trans (V_main_arg0 m c)), h.2⟩)
    (launched m ρ)

end Cert.StatsValue

end
-- ==== Proof.StatsSum.lean ====
/- The statistics call's sums agree with the reference's: at the ideal instance casts between formats are the identity and sums may be
   taken in any order, so 32 points of 256 rows each give the sum over the 8192 rows of a half. -/
module

public import proofs.«01_k».proof.Proof.StatsRun
public import proofs.«01_k».proof.Proof.Gen.StatsReferenceIdeal.Run
public import proofs.«01_k».proof.Defs

@[expose] public section

noncomputable section

namespace Cert.StatsValue

open Cert.StatsIdeal Cert.StatsIdeal.Gen Idealize.ShloMosaic Idealize.ShloMosaic.TcCoe Idealize.ShloMosaic.Tactic Idealize.SL.Sem
open Idealize.ShloMosaic.Pipeline (RDat)

/-! ## The result arrays after the run -/

section Arrays

variable {F : FTy → Type} [FloatOps F] (m : (ℓ : Loc nD τ sig) → Buf (Elt F) ℓ)

/-- The block of x goes down the batch; those of the results are the halves'. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val / 32 ∧ win0_1.index t (1 : Fin 3) = 0 ∧ win0_1.index t (2 : Fin 3) = 0 :=
  (by decide +kernel : ∀ t : Fin grid0.N, _)
theorem index2 : ∀ t : Fin cfg0.N, win0_2.index t (0 : Fin 4) = t.val / 32 ∧ win0_2.index t (1 : Fin 4) = 0 ∧ win0_2.index t (2 : Fin 4) = 0
    ∧ win0_2.index t (3 : Fin 4) = 0 :=
  (by decide +kernel : ∀ t : Fin grid0.N, _)

/-- The half that point `t` belongs to. -/
def half (t : Fin cfg0.N) : Fin 2 := ⟨t.val / 32, by
  have h : t.val < 64 := t.isLt
  omega⟩

theorem emb0 (t : Fin cfg0.N) (a : Fin 256) (d : Fin 32) (k : Fin 128) :
    ((cfg0.win 0).blk t).view.emb (ix3 a d k) = (ix3 (Fin.ofNat 16384 (256 * t.val + a.val)) d k : S16384x32x128.Idx) := by
  obtain ⟨e0, e1, e2⟩ := index0 t
  have ht : t.val < 64 := t.isLt
  funext j; apply Fin.ext
  match j with
  | ⟨0, _⟩ => show win0_0.index t (0 : Fin 3) * 256 + 1 * a.val = (256 * t.val + a.val) % 16384; omega
  | ⟨1, _⟩ => show win0_0.index t (1 : Fin 3) * 32 + 1 * d.val = d.val; omega
  | ⟨2, _⟩ => show win0_0.index t (2 : Fin 3) * 128 + 1 * k.val = k.val; omega

theorem emb1 (t : Fin cfg0.N) (a : Fin 1) (b : Fin 32) (k : Fin 128) :
    ((cfg0.win 1).blk t).view.emb (ix3 a b k) = (ix3 (half t) b k : S2x32x128.Idx) := by
  obtain ⟨e0, e1, e2⟩ := index1 t
  funext j; apply Fin.ext
  match j with
  | ⟨0, _⟩ => show win0_1.index t (0 : Fin 3) * 1 + 1 * a.val = t.val / 32; omega
  | ⟨1, _⟩ => show win0_1.index t (1 : Fin 3) * 32 + 1 * b.val = b.val; omega
  | ⟨2, _⟩ => show win0_1.index t (2 : Fin 3) * 128 + 1 * k.val = k.val; omega

theorem emb2 (t : Fin cfg0.N) (a : Fin 1) (d e : Fin 32) (k : Fin 128) :
    ((cfg0.win 2).blk t).view.emb (ix4 a d e k) = (ix4 (half t) d e k : S2x32x32x128.Idx) := by
  obtain ⟨e0, e1, e2, e3⟩ := index2 t
  funext j; apply Fin.ext
  match j with
  | ⟨0, _⟩ => show win0_2.index t (0 : Fin 4) * 1 + 1 * a.val = t.val / 32; omega
  | ⟨1, _⟩ => show win0_2.index t (1 : Fin 4) * 32 + 1 * d.val = d.val; omega
  | ⟨2, _⟩ => show win0_2.index t (2 : Fin 4) * 32 + 1 * e.val = e.val; omega
  | ⟨3, _⟩ => show win0_2.index t (3 : Fin 4) * 128 + 1 * k.val = k.val; omega

/-- Writing point `t`'s block of the first result: its half is the block's, the other is as before. -/
theorem write1 (c : Dev nD) (t : Fin cfg0.N) (G : Vec F S2x32x128 .f32) (X : Vec F S1x32x128 .f32) (p : Fin 2) (b : Fin 32) (k : Fin 128) :
    ((cfg0.win 1).blk t).view.write (Elt F) G X Finset.univ (ix3 p b k) = if p = half t then X (ix3 0 b k) else G (ix3 p b k) := by
  split
  · next h =>
    subst h
    have := ((cfg0.win 1).blk t).view.write_emb_of_mem (Val := Elt F) G X (Finset.mem_univ (ix3 0 b k : S1x32x128.Idx))
    rw [emb1] at this
    exact this
  · next h =>
    refine View.write_of_not_mem (Val := Elt F) _ _ _ fun hm => h ?_
    obtain ⟨y, -, hy⟩ := Finset.mem_map.1 hm
    obtain ⟨a, b', k', rfl⟩ : ∃ (a : Fin 1) (b' : Fin 32) (k' : Fin 128), y = ix3 a b' k' := ⟨y 0, y 1, y 2, eq_ix3 y⟩
    exact (congrFun ((emb1 t a b' k').symm.trans hy) 0).symm

theorem write2 (c : Dev nD) (t : Fin cfg0.N) (G : Vec F S2x32x32x128 .f32) (X : Vec F S1x32x32x128 .f32) (p : Fin 2) (d e : Fin 32) (k : Fin 128) :
    ((cfg0.win 2).blk t).view.write (Elt F) G X Finset.univ (ix4 p d e k) = if p = half t then X (ix4 0 d e k) else G (ix4 p d e k) := by
  split
  · next h =>
    subst h
    have := ((cfg0.win 2).blk t).view.write_emb_of_mem (Val := Elt F) G X (Finset.mem_univ (ix4 0 d e k : S1x32x32x128.Idx))
    rw [emb2] at this
    exact this
  · next h =>
    refine View.write_of_not_mem (Val := Elt F) _ _ _ fun hm => h ?_
    obtain ⟨y, -, hy⟩ := Finset.mem_map.1 hm
    obtain ⟨a, d', e', k', rfl⟩ : ∃ (a : Fin 1) (d' e' : Fin 32) (k' : Fin 128), y = ix4 a d' e' k' := ⟨y 0, y 1, y 2, y 3, eq_ix4 y⟩
    exact (congrFun ((emb2 t a d' e' k').symm.trans hy) 0).symm

/-- After `n` points the halves written back hold their sums. -/
theorem array1 (c : Dev nD) (n : ℕ) (G : Vec F S2x32x128 .f32) (h : (rdat m c).ArrAt 1 n G) (p : Fin 2) (b : Fin 32) (k : Fin 128)
    (hp : 32 * p.val + 31 < n) (hn : n ≤ 64) : G (ix3 p b k) = sum1 m c p.val b k 31 := by
  induction n generalizing G with
  | zero => omega
  | succ n ih =>
    have hN : n < cfg0.N := lt_of_lt_of_eq (show n < 64 by omega) N_0.symm
    simp only [RDat.ArrAt, dif_pos hN] at h
    by_cases hf : (cfg0.win 1).flush ⟨n, hN⟩ = true
    · rw [if_pos hf] at h
      have hr : n % 32 = 31 := (flush0_1 _).mp hf
      obtain ⟨G₀, X, h₀, hX, rfl⟩ := h
      have hl : Left1 m c n X := (dats m 0 c).toRRel_leaves (fgt := marked) (Rl := Leaves m c) (w := 1) rfl hX
      refine (write1 c ⟨n, hN⟩ G₀ X p b k).trans ?_
      split
      · next hq =>
        have e : p.val = n / 32 := congrArg Fin.val hq
        rw [hl, hr, ← e]
        rfl
      · next hq =>
        refine ih G₀ h₀ ?_ (by omega)
        have : p.val ≠ n / 32 := fun e => hq (Fin.ext e)
        omega
    · rw [if_neg hf] at h
      refine ih G h ?_ (by omega)
      have : ¬ n % 32 = 31 := fun e => hf ((flush0_1 ⟨n, hN⟩).mpr e)
      omega

theorem array2 (c : Dev nD) (n : ℕ) (G : Vec F S2x32x32x128 .f32) (h : (rdat m c).ArrAt 2 n G) (p : Fin 2) (d e : Fin 32) (k : Fin 128)
    (hde : d.val / 8 * 8 ≤ e.val) (hp : 32 * p.val + 31 < n) (hn : n ≤ 64) : G (ix4 p d e k) = sum2 m c p.val d e k 31 := by
  induction n generalizing G with
  | zero => omega
  | succ n ih =>
    have hN : n < cfg0.N := lt_of_lt_of_eq (show n < 64 by omega) N_0.symm
    simp only [RDat.ArrAt, dif_pos hN] at h
    by_cases hf : (cfg0.win 2).flush ⟨n, hN⟩ = true
    · rw [if_pos hf] at h
      have hr : n % 32 = 31 := (flush0_2 _).mp hf
      obtain ⟨G₀, X, h₀, hX, rfl⟩ := h
      have hl : Left2 m c n X := (dats m 0 c).toRRel_leaves (fgt := marked) (Rl := Leaves m c) (w := 2) rfl hX
      refine (write2 c ⟨n, hN⟩ G₀ X p d e k).trans ?_
      split
      · next hq =>
        have e' : p.val = n / 32 := congrArg Fin.val hq
        rw [hl _ hde, hr, ← e']
        rfl
      · next hq =>
        refine ih G₀ h₀ ?_ (by omega)
        have : p.val ≠ n / 32 := fun e => hq (Fin.ext e)
        omega
    · rw [if_neg hf] at h
      refine ih G h ?_ (by omega)
      have : ¬ n % 32 = 31 := fun e => hf ((flush0_2 ⟨n, hN⟩).mpr e)
      omega

/-- A row of a point, as a row of the batch. -/
theorem rows_eq (c : Dev nD) (p j r : ℕ) (hp : p < 2) (hj : j < 32) (hr : r < 256) (d : Fin 32) (k : Fin 128) :
    rows m c p j (ix3 (Fin.ofNat 256 r) d k) = m ((c : Thread nD τ).loc main_arg0) (ix3 (Fin.ofNat 16384 (8192 * p + (256 * j + r))) d k) := by
  show V m c main_arg0 (((cfg0.win 0).blk (pt (32 * p + j))).view.emb (ix3 (Fin.ofNat 256 r) d k)) = _
  rw [emb0]
  have e : 256 * (pt (32 * p + j)).val + (Fin.ofNat 256 r).val = 8192 * p + (256 * j + r) := by
    show 256 * ((32 * p + j) % 64) + r % 256 = _
    omega
  rw [e]

end Arrays

/-! ## The sums at the ideal instance -/

/-- The sum of the entries of a group's eight rows. -/
theorem group_eq (x0 : Vec Ideal S256x32x128 .f32) (n : ℕ) (b : Fin 32) (k : Fin 128) :
    group x0 n (ix2 b k) = ∑ j ∈ Finset.range 8, (x0 (ix3 (Fin.ofNat 256 (8 * n + j)) b k) : EReal) := by
  unfold group
  pointwise
  rw [Finset.sum_range]

theorem acc1_eq (x0 : Vec Ideal S256x32x128 .f32) (n : ℕ) (b : Fin 32) (k : Fin 128) :
    acc1 x0 n (ix2 b k) = ∑ r ∈ Finset.range (8 * (n + 1)), (x0 (ix3 (Fin.ofNat 256 r) b k) : EReal) := by
  induction n with
  | zero =>
    show group x0 0 (ix2 b k) = _
    rw [group_eq]
    refine Finset.sum_congr rfl fun j _ => ?_
    rw [Nat.mul_zero, Nat.zero_add]
  | succ n ih =>
    show (acc1 x0 n (ix2 b k) : EReal) + group x0 (n + 1) (ix2 b k) = _
    rw [ih, group_eq, show 8 * (n + 1 + 1) = 8 * (n + 1) + 8 by omega, Finset.sum_range_add]

/-- The order in which eight values are summed does not matter. -/
theorem tree_eq (p : Fin 8 → EReal) : tree (F := Ideal) p = ∑ j : Fin 8, p j := by
  rw [Fin.sum_univ_eight]
  show ((p 0 + p 4) + (p 2 + p 6)) + ((p 1 + p 5) + (p 3 + p 7)) = _
  abel

/-- The product of columns `e` and `d` in row `r`. -/
def term (x0 : Vec Ideal S256x32x128 .f32) (d e : Fin 32) (k : Fin 128) (r : ℕ) : EReal :=
  (x0 (ix3 (Fin.ofNat 256 r) e k) : EReal) * x0 (ix3 (Fin.ofNat 256 r) d k)

theorem tree_rows (x0 : Vec Ideal S256x32x128 .f32) (d e : Fin 32) (k : Fin 128) (r : ℕ) :
    tree (F := Ideal) (fun j => prod x0 d e k (r + j.val)) = ∑ j ∈ Finset.range 8, term x0 d e k (r + j) := by
  rw [Finset.sum_range]
  exact tree_eq _

theorem pair_eq (x0 : Vec Ideal S256x32x128 .f32) (d e : Fin 32) (k : Fin 128) (n : ℕ) :
    pair x0 d e k n = ∑ j ∈ Finset.range 16, term x0 d e k (16 * n + j) := by
  show (tree (F := Ideal) (fun j => prod x0 d e k (16 * n + j.val)) : EReal) + tree (F := Ideal) (fun j => prod x0 d e k (16 * n + 8 + j.val)) = _
  rw [tree_rows, tree_rows, show (16 : ℕ) = 8 + 8 from rfl, Finset.sum_range_add]
  refine congrArg _ (Finset.sum_congr rfl fun j _ => ?_)
  rw [Nat.add_assoc]

theorem acc2_eq (x0 : Vec Ideal S256x32x128 .f32) (d e : Fin 32) (k : Fin 128) (n : ℕ) :
    acc2 x0 d e k n = ∑ r ∈ Finset.range (16 * (n + 1)), term x0 d e k r := by
  induction n with
  | zero =>
    show pair x0 d e k 0 = _
    rw [pair_eq]
    refine Finset.sum_congr rfl fun j _ => ?_
    rw [Nat.mul_zero, Nat.zero_add]
  | succ n ih =>
    show (acc2 x0 d e k n : EReal) + pair x0 d e k (n + 1) = _
    rw [ih, pair_eq, show 16 * (n + 1 + 1) = 16 * (n + 1) + 16 by omega, Finset.sum_range_add]

/-! ## The results as functions of the argument -/

/-- The sum of each half's rows. -/
def total1 (x : Vec Ideal S16384x32x128 .f32) : Vec Ideal S2x32x128 .f32 := fun i =>
  ∑ r ∈ Finset.range 8192, (x (ix3 (Fin.ofNat 16384 (8192 * (i 0).val + r)) (i 1) (i 2)) : EReal)

/-- The sum of the products of columns over each half's rows. -/
def total2 (x : Vec Ideal S16384x32x128 .f32) : Vec Ideal S2x32x32x128 .f32 := fun i =>
  ∑ r ∈ Finset.range 8192, (x (ix3 (Fin.ofNat 16384 (8192 * (i 0).val + r)) (i 2) (i 3)) : EReal)
    * x (ix3 (Fin.ofNat 16384 (8192 * (i 0).val + r)) (i 1) (i 3))

variable (m : (ℓ : Loc nD τ sig) → Buf (Elt Ideal) ℓ) (ρ : Dev nD → PrngReg)

/-- The argument array. -/
abbrev arg (c : Dev nD) : Vec Ideal S16384x32x128 .f32 := m ((c.tc : Thread nD τ).loc main_arg0)

theorem point1 (c : Dev nD) (p j : ℕ) (hp : p < 2) (hj : j < 32) (b : Fin 32) (k : Fin 128) :
    acc1 (rows m c p j) 31 (ix2 b k) = ∑ r ∈ Finset.range 256, (arg m c (ix3 (Fin.ofNat 16384 (8192 * p + (256 * j + r))) b k) : EReal) := by
  rw [acc1_eq]
  exact Finset.sum_congr rfl fun r hr => rows_eq m c p j r hp hj (Finset.mem_range.1 hr) b k

theorem point2 (c : Dev nD) (p j : ℕ) (hp : p < 2) (hj : j < 32) (d e : Fin 32) (k : Fin 128) :
    acc2 (rows m c p j) d e k 15 = ∑ r ∈ Finset.range 256, (arg m c (ix3 (Fin.ofNat 16384 (8192 * p + (256 * j + r))) e k) : EReal)
      * arg m c (ix3 (Fin.ofNat 16384 (8192 * p + (256 * j + r))) d k) := by
  rw [acc2_eq]
  refine Finset.sum_congr rfl fun r hr => ?_
  unfold term
  rw [rows_eq m c p j r hp hj (Finset.mem_range.1 hr), rows_eq m c p j r hp hj (Finset.mem_range.1 hr)]

theorem sum1_eq (c : Dev nD) (p : ℕ) (hp : p < 2) (b : Fin 32) (k : Fin 128) (j : ℕ) (hj : j < 32) :
    sum1 m c p b k j = ∑ r ∈ Finset.range (256 * (j + 1)), (arg m c (ix3 (Fin.ofNat 16384 (8192 * p + r)) b k) : EReal) := by
  induction j with
  | zero =>
    show acc1 (rows m c p 0) 31 (ix2 b k) = _
    rw [point1 m c p 0 hp hj]
    refine Finset.sum_congr rfl fun r _ => ?_
    rw [Nat.mul_zero, Nat.zero_add]
  | succ j ih =>
    show (sum1 m c p b k j : EReal) + acc1 (rows m c p (j + 1)) 31 (ix2 b k) = _
    rw [ih (by omega), point1 m c p (j + 1) hp hj, show 256 * (j + 1 + 1) = 256 * (j + 1) + 256 by omega, Finset.sum_range_add]

theorem sum2_eq (c : Dev nD) (p : ℕ) (hp : p < 2) (d e : Fin 32) (k : Fin 128) (j : ℕ) (hj : j < 32) :
    sum2 m c p d e k j = ∑ r ∈ Finset.range (256 * (j + 1)), (arg m c (ix3 (Fin.ofNat 16384 (8192 * p + r)) e k) : EReal)
      * arg m c (ix3 (Fin.ofNat 16384 (8192 * p + r)) d k) := by
  induction j with
  | zero =>
    show acc2 (rows m c p 0) d e k 15 = _
    rw [point2 m c p 0 hp hj]
    refine Finset.sum_congr rfl fun r _ => ?_
    rw [Nat.mul_zero, Nat.zero_add]
  | succ j ih =>
    show (sum2 m c p d e k j : EReal) + acc2 (rows m c p (j + 1)) d e k 15 = _
    rw [ih (by omega), point2 m c p (j + 1) hp hj, show 256 * (j + 1 + 1) = 256 * (j + 1) + 256 by omega, Finset.sum_range_add]

/-! ## The reference -/

theorem ref1 (x : Vec Ideal S16384x32x128 .f32) (p : Fin 2) (b : Fin 32) (k : Fin 128) :
    Host.reduceAdd (F := Ideal) (φ := .f32) (shapeCast Cert.StatsReferenceIdeal.S2x8192x32x128 x Cert.StatsReferenceIdeal.Gen.shapeCasts_S16384x32x128_S2x8192x32x128)
      (constant Cert.StatsReferenceIdeal.S_ .f32 0x00000000#32) Cert.StatsReferenceIdeal.Gen.reducesTo_S2x8192x32x128_S2x32x128_d1
      Cert.StatsReferenceIdeal.Gen.h_S_ (ix3 p b k) = total1 x (ix3 p b k) := by
  pointwise
  show _ = ∑ r ∈ Finset.range 8192, (x (ix3 (Fin.ofNat 16384 (8192 * p.val + r)) b k) : EReal)
  rw [Finset.sum_range]
  refine Finset.sum_congr rfl fun r _ => ?_
  have e : Fin.ofNat 16384 (8192 * p.val + r.val) = (⟨p.val * 8192 + r.val, by omega⟩ : Fin 16384) :=
    Fin.ext (show (8192 * p.val + r.val) % 16384 = p.val * 8192 + r.val by omega)
  rw [e]

theorem ref2 (x : Vec Ideal S16384x32x128 .f32) (h1 h2) (p : Fin 2) (d e : Fin 32) (k : Fin 128) :
    transpose Cert.StatsReferenceIdeal.S2x32x32x128 [0, 3, 2, 1]
      (Host.dotGeneral (F := Ideal) (φ₁ := .f32) (φ₂ := .f32) Cert.StatsReferenceIdeal.dot_S2x8192x32x128_S2x8192x32x128_S2x128x32x32_1_1_2_2_03_03 none
        (shapeCast Cert.StatsReferenceIdeal.S2x8192x32x128 x h1) (shapeCast Cert.StatsReferenceIdeal.S2x8192x32x128 x h1)) h2 (ix4 p d e k)
      = total2 x (ix4 p d e k) := by
  pointwise
  show _ = ∑ r ∈ Finset.range 8192, (x (ix3 (Fin.ofNat 16384 (8192 * p.val + r)) e k) : EReal) * x (ix3 (Fin.ofNat 16384 (8192 * p.val + r)) d k)
  rw [Finset.sum_range]
  refine Finset.sum_congr rfl fun r _ => ?_
  have e : Fin.ofNat 16384 (8192 * p.val + r.val) = (⟨p.val * 8192 + r.val, by omega⟩ : Fin 16384) :=
    Fin.ext (show (8192 * p.val + r.val) % 16384 = p.val * 8192 + r.val by omega)
  rw [e]

/-- The mask selects of the second result the columns from d's group of eight on. -/
theorem of_mask [Cert.On_written.Facts] (x : Vec Ideal S16384x32x128 .f32) (p : Fin 2) (d e : Fin 32) (k : Fin 128)
    (h : (Cert.On_written.fn (F := Ideal) x).2 (ix4 p d e k) = 1#1) : d.val / 8 * 8 ≤ e.val := by
  pointwise [Cert.On_written.fn, Cert.On_written.fn_remainder, Cert.On_written.fn_where] at h
  revert d e
  decide +kernel

/-! ## The claim -/

theorem result1 (c : Dev nD) (G : Vec Ideal S2x32x128 .f32) (h : (rdat m c).ArrAt 1 cfg0.N G) : G = total1 (arg m c) := by
  funext i
  obtain ⟨p, b, k, rfl⟩ : ∃ (p : Fin 2) (b : Fin 32) (k : Fin 128), i = ix3 p b k := ⟨i 0, i 1, i 2, eq_ix3 i⟩
  have hp := p.isLt
  exact (array1 m c 64 G ((show cfg0.N = 64 from N_0) ▸ h) p b k (by omega) le_rfl).trans (sum1_eq m c p.val hp b k 31 (by omega))

theorem result2 (c : Dev nD) (G : Vec Ideal S2x32x32x128 .f32) (h : (rdat m c).ArrAt 2 cfg0.N G) (p : Fin 2) (d e : Fin 32) (k : Fin 128)
    (hde : d.val / 8 * 8 ≤ e.val) : G (ix4 p d e k) = total2 (arg m c) (ix4 p d e k) := by
  have hp := p.isLt
  exact (array2 m c 64 G ((show cfg0.N = 64 from N_0) ▸ h) p d e k hde (by omega) le_rfl).trans (sum2_eq m c p.val hp d e k 31 (by omega))

/-- Kernel and reference leave the same first result, and the same second result on the columns that the kernel writes. -/
theorem algebraic [Cert.On_written.Facts] : Cert.algebraic_StatsIdeal_StatsReferenceIdeal_on_written := by
  intro m g m' g' _ hargs
  refine ⟨fun c => total1 (arg m c), fun c => total2 (arg m c), ?_, ?_⟩
  · refine (θ_run defs _ _).mono (fun r h c => ⟨fun i _ => congrFun (result1 m c _ ((h.1 c).1 1)) i, fun i hi => ?_,
      (RDat.FramePost.arr_in h.1 c 0 rfl).trans ((A_eq m c 0).trans (V_main_arg0 m c))⟩) (launched m g)
    obtain ⟨p, d, e, k, rfl⟩ : ∃ (p : Fin 2) (d e : Fin 32) (k : Fin 128), i = ix4 p d e k := ⟨i 0, i 1, i 2, i 3, eq_ix4 i⟩
    exact result2 m c _ ((h.1 c).1 2) p d e k (of_mask _ p d e k hi)
  · refine (θ_run Cert.StatsReferenceIdeal.defs _ _).mono (fun r h c => ⟨fun i _ => ?_, fun i _ => ?_, (h c).2.2⟩) (Cert.StatsReferenceIdeal.Value.run m' g')
    · obtain ⟨p, b, k, rfl⟩ : ∃ (p : Fin 2) (b : Fin 32) (k : Fin 128), i = ix3 p b k := ⟨i 0, i 1, i 2, eq_ix3 i⟩
      rw [(h c).1, hargs c]
      exact ref1 _ p b k
    · obtain ⟨p, d, e, k, rfl⟩ : ∃ (p : Fin 2) (d e : Fin 32) (k : Fin 128), i = ix4 p d e k := ⟨i 0, i 1, i 2, i 3, eq_ix4 i⟩
      rw [(h c).2.1, hargs c]
      exact ref2 _ _ _ p d e k

end Cert.StatsValue

end
-- ==== Proof.StatsBits.lean ====
/- The statistics call at its machine words. Its text and its ideal text are one, no operation being replaced, and the run of
   `StatsRun` holds in any arithmetic: so it is the run of the call itself too. -/
module

public import proofs.«01_k».proof.Defs
public import proofs.«01_k».proof.Proof.StatsRun
public import proofs.«01_k».proof.Proof.Gen.Stats

@[expose] public section

namespace Cert.StatsValue

open Idealize.ShloMosaic

variable {F : FTy → Type} [FloatOps F]

/-- The two texts have the same body. -/
theorem body_same : @Cert.Stats.defs₀ F _ _ = @Cert.StatsIdeal.defs₀ F _ _ := by
  unfold Cert.Stats.defs₀ Cert.StatsIdeal.defs₀
  refine congrArg Defs.onTc (funext fun l => funext fun a => ?_)
  match l, a with
  | 0, (t, s) => rfl
  | ⟨_ + 1, h⟩, _ => exact absurd h (Nat.not_lt.2 (Nat.le_add_left _ _))

/-- The call runs to its end, its argument unchanged and every counter at zero. -/
theorem words_quiescent : Cert.quiescent_Stats := fun m ρ _ => by
  unfold Cert.Stats.defs
  rw [body_same]
  exact quiescent (F := Bits) m ρ

end Cert.StatsValue

end
-- ==== Proof.FactorSpec.lean ====
/- The factor call's mathematics on indices: the elimination that gives the Cholesky factor L of a matrix, column by
   column, and W = L^-1, row by row. Kernel and reference are both shown to compute these. -/
module

public import proofs.«01_k».proof.Proof.Gen.FactorIdeal.Skeleton
public import Idealize.ShloMosaic.Lib.Pointwise
public import Idealize.ShloMosaic.Lib.WritesUnit

@[expose] public section

noncomputable section

namespace Cert.FactorValue

open Idealize.ShloMosaic

/-- A matrix for each of the 128 clusters. -/
abbrev Mat := ℕ → ℕ → Fin 128 → EReal

/-- Column `j` divided by the root of its pivot. -/
def colOf (M : Mat) (j d : ℕ) (k : Fin 128) : EReal := M d j k * Ideal.rsqrt (M j j k)

/-- What is left of the matrix after `n` columns. -/
def rest (M0 : Mat) : ℕ → Mat
  | 0 => M0
  | n + 1 => fun d e k => rest M0 n d e k - colOf (rest M0 n) n d k * colOf (rest M0 n) n e k

/-- The Cholesky factor. -/
def chol (M0 : Mat) : Mat := fun d i k => colOf (rest M0 i) i d k

/-- One over the pivot of row `j` of the factor. -/
def recip (M0 : Mat) (j : ℕ) (k : Fin 128) : EReal := FloatOps.divf (F := Ideal) (φ := .f32) (1 : EReal) (chol M0 j j k)

/-- The inverse of the factor, by forward substitution: row `j`, column `e`. -/
def inv (M0 : Mat) (e : ℕ) (k : Fin 128) (j : ℕ) : EReal :=
  ((if e = j then (1 : EReal) else 0) - ∑ i : Fin j, chol M0 j i.val k * inv M0 e k i.val) * recip M0 j k
termination_by j
decreasing_by exact i.isLt

theorem inv_eq (M0 : Mat) (e : ℕ) (k : Fin 128) (j : ℕ) :
    inv M0 e k j = ((if e = j then (1 : EReal) else 0) - ∑ i : Fin j, chol M0 j i.val k * inv M0 e k i.val) * recip M0 j k := by
  rw [inv]

end Cert.FactorValue

end
-- ==== Proof.FactorLayout.lean ====
/- The values the factor call stores, read at an index: a column divided by the root of its pivot, the block right of it
   with the column's products taken off, a row of W. The number of rows is a parameter throughout. -/
module

public import proofs.«01_k».proof.Proof.FactorSpec
public import Idealize.ShloMosaic.Lib.Pipeline.Value

@[expose] public section

noncomputable section

namespace Cert.FactorValue

open Cert.FactorIdeal Cert.FactorIdeal.Gen Idealize.ShloMosaic Idealize.ShloMosaic.TcCoe Idealize.ShloMosaic.Tactic

section Layout
variable {α : Type} {n : ℕ}

/-- A middle axis of one element put in. -/
theorem cast_mid (x : (⟨2, ![n, 128]⟩ : Shape).Idx → α) (h) (d : Fin n) (e : Fin 1) (k : Fin 128) :
    shapeCast (⟨3, ![n, 1, 128]⟩ : Shape) x h (ix3 d e k) = x (ix2 d k) :=
  shapeCast_apply x h _ _ (by
    rw [Shape.rowMajor_val_three, Shape.rowMajor_val_two]
    show d.val * 128 + k.val = (d.val * 1 + e.val) * 128 + k.val
    omega)

/-- A middle axis of one element taken out. -/
theorem cast_unmid (x : (⟨3, ![n, 1, 128]⟩ : Shape).Idx → α) (h) (d : Fin n) (k : Fin 128) :
    shapeCast (⟨2, ![n, 128]⟩ : Shape) x h (ix2 d k) = x (ix3 d 0 k) :=
  shapeCast_apply x h _ _ (by
    rw [Shape.rowMajor_val_three, Shape.rowMajor_val_two]
    show (d.val * 1 + 0) * 128 + k.val = d.val * 128 + k.val
    omega)

/-- A leading axis of one element put in. -/
theorem cast_lead (x : (⟨2, ![n, 128]⟩ : Shape).Idx → α) (h) (d : Fin n) (e : Fin 1) (k : Fin 128) :
    shapeCast (⟨3, ![1, n, 128]⟩ : Shape) x h (ix3 e d k) = x (ix2 d k) :=
  shapeCast_apply x h _ _ (by
    rw [Shape.rowMajor_val_three, Shape.rowMajor_val_two]
    show d.val * 128 + k.val = (e.val * n + d.val) * 128 + k.val
    have : e.val = 0 := by omega
    rw [this, Nat.zero_mul, Nat.zero_add])

/-- A leading axis of one element taken out. -/
theorem cast_unlead (x : (⟨3, ![1, n, 128]⟩ : Shape).Idx → α) (h) (d : Fin n) (k : Fin 128) :
    shapeCast (⟨2, ![n, 128]⟩ : Shape) x h (ix2 d k) = x (ix3 0 d k) :=
  shapeCast_apply x h _ _ (by
    rw [Shape.rowMajor_val_three, Shape.rowMajor_val_two]
    show (0 * n + d.val) * 128 + k.val = d.val * 128 + k.val
    rw [Nat.zero_mul, Nat.zero_add])

/-- One row repeated. -/
theorem rep_row (x : (⟨2, ![1, 128]⟩ : Shape).Idx → α) (h) (d : Fin n) (k : Fin 128) :
    broadcastTo (⟨2, ![n, 128]⟩ : Shape) x h (ix2 d k) = x (ix2 0 k) :=
  broadcastTo_apply x h _ _ (fun a => by
    match a with
    | ⟨0, _⟩ => rfl
    | ⟨1, _⟩ => rfl)

/-- One matrix row repeated. -/
theorem rep_lead {m : ℕ} (x : (⟨3, ![1, n, 128]⟩ : Shape).Idx → α) (h) (d : Fin m) (e : Fin n) (k : Fin 128) :
    broadcastTo (⟨3, ![m, n, 128]⟩ : Shape) x h (ix3 d e k) = x (ix3 0 e k) :=
  broadcastTo_apply x h _ _ (fun a => by
    match a with
    | ⟨0, _⟩ => rfl
    | ⟨1, _⟩ => show e.val = if n = 1 then 0 else e.val; split <;> omega
    | ⟨2, _⟩ => rfl)

/-- One matrix column repeated. -/
theorem rep_mid {m : ℕ} (x : (⟨3, ![n, 1, 128]⟩ : Shape).Idx → α) (h) (d : Fin n) (e : Fin m) (k : Fin 128) :
    broadcastTo (⟨3, ![n, m, 128]⟩ : Shape) x h (ix3 d e k) = x (ix3 d 0 k) :=
  broadcastTo_apply x h _ _ (fun a => by
    match a with
    | ⟨0, _⟩ => show d.val = if n = 1 then 0 else d.val; split <;> omega
    | ⟨1, _⟩ => rfl
    | ⟨2, _⟩ => rfl)

/-- All rows but the first. -/
theorem tail_row (x : (⟨2, ![n + 1, 128]⟩ : Shape).Idx → α) (h) (d : Fin n) (k : Fin 128) :
    extractStridedSlice (⟨2, ![n, 128]⟩ : Shape) ![1, 0] x h (ix2 d k) = x (ix2 d.succ k) :=
  extractStridedSlice_apply _ x h _ _ (fun a => by
    match a with
    | ⟨0, _⟩ => show d.val + 1 = 1 + d.val; omega
    | ⟨1, _⟩ => show k.val = 0 + k.val; omega)

end Layout

/-- A column over the root of its pivot, as a vector. -/
theorem vec_val (n : ℕ) (p : FVec Ideal (⟨3, ![1, 1, 128]⟩ : Shape) .f32) (q : FVec Ideal (⟨3, ![n, 1, 128]⟩ : Shape) .f32) (h1 h2 h3) (d : Fin n) (k : Fin 128) :
    mulf (shapeCast (⟨2, ![n, 128]⟩ : Shape) q h1) (broadcastTo (⟨2, ![n, 128]⟩ : Shape) (rsqrt (shapeCast (⟨2, ![1, 128]⟩ : Shape) p h2)) h3) (ix2 d k)
      = (q (ix3 d 0 k) : EReal) * Ideal.rsqrt (p (ix3 0 0 k)) := by
  show (shapeCast (⟨2, ![n, 128]⟩ : Shape) q h1 (ix2 d k) : EReal) * broadcastTo (⟨2, ![n, 128]⟩ : Shape) (rsqrt (shapeCast (⟨2, ![1, 128]⟩ : Shape) p h2)) h3 (ix2 d k) = _
  rw [cast_unmid, rep_row]
  show _ * Ideal.rsqrt (shapeCast (⟨2, ![1, 128]⟩ : Shape) p h2 (ix2 0 k)) = _
  rw [cast_unmid]

/-- The column as it is stored. -/
theorem col_val (n : ℕ) (p : FVec Ideal (⟨3, ![1, 1, 128]⟩ : Shape) .f32) (q : FVec Ideal (⟨3, ![n, 1, 128]⟩ : Shape) .f32) (h1 h2 h3 h4) (d : Fin n) (k : Fin 128) :
    shapeCast (⟨3, ![n, 1, 128]⟩ : Shape) (mulf (shapeCast (⟨2, ![n, 128]⟩ : Shape) q h1) (broadcastTo (⟨2, ![n, 128]⟩ : Shape) (rsqrt (shapeCast (⟨2, ![1, 128]⟩ : Shape) p h2)) h3)) h4 (ix3 d 0 k)
      = (q (ix3 d 0 k) : EReal) * Ideal.rsqrt (p (ix3 0 0 k)) := by
  rw [cast_mid, vec_val]

/-- The last column, of one entry. -/
theorem last_val (p q : FVec Ideal (⟨3, ![1, 1, 128]⟩ : Shape) .f32) (h1 h2 h4) (d : Fin 1) (k : Fin 128) :
    shapeCast (⟨3, ![1, 1, 128]⟩ : Shape) (mulf (shapeCast (⟨2, ![1, 128]⟩ : Shape) q h1) (rsqrt (shapeCast (⟨2, ![1, 128]⟩ : Shape) p h2))) h4 (ix3 d 0 k)
      = (q (ix3 d 0 k) : EReal) * Ideal.rsqrt (p (ix3 0 0 k)) := by
  rw [cast_mid]
  show (shapeCast (⟨2, ![1, 128]⟩ : Shape) q h1 (ix2 d k) : EReal) * Ideal.rsqrt (shapeCast (⟨2, ![1, 128]⟩ : Shape) p h2 (ix2 d k)) = _
  rw [cast_unmid, cast_unmid, Fin.fin_one_eq_zero d]

/-- The block right of a column, the products of the column's entries taken off. -/
theorem upd_val (n : ℕ) (x : FVec Ideal (⟨2, ![n + 1, 128]⟩ : Shape) .f32) (b : FVec Ideal (⟨3, ![n, n, 128]⟩ : Shape) .f32) (h1 h2 h3 h4 h5 h6 h7) (d e : Fin n) (k : Fin 128) :
    shapeCast (⟨3, ![n, n, 128]⟩ : Shape) (subf b (mulf (broadcastTo (⟨3, ![n, n, 128]⟩ : Shape) (shapeCast (⟨3, ![n, 1, 128]⟩ : Shape) (extractStridedSlice (⟨2, ![n, 128]⟩ : Shape) ![1, 0] x h1) h2) h3)
       (broadcastTo (⟨3, ![n, n, 128]⟩ : Shape) (shapeCast (⟨3, ![1, n, 128]⟩ : Shape) (extractStridedSlice (⟨2, ![n, 128]⟩ : Shape) ![1, 0] x h4) h5) h6))) h7 (ix3 d e k)
      = (b (ix3 d e k) : EReal) - x (ix2 d.succ k) * x (ix2 e.succ k) := by
  rw [shapeCast_apply _ h7 (ix3 d e k) (ix3 d e k) rfl]
  show (b (ix3 d e k) : EReal) - broadcastTo (⟨3, ![n, n, 128]⟩ : Shape) (shapeCast (⟨3, ![n, 1, 128]⟩ : Shape) (extractStridedSlice (⟨2, ![n, 128]⟩ : Shape) ![1, 0] x h1) h2) h3 (ix3 d e k)
    * broadcastTo (⟨3, ![n, n, 128]⟩ : Shape) (shapeCast (⟨3, ![1, n, 128]⟩ : Shape) (extractStridedSlice (⟨2, ![n, 128]⟩ : Shape) ![1, 0] x h4) h5) h6 (ix3 d e k) = _
  rw [rep_mid, rep_lead, cast_mid, cast_lead, tail_row, tail_row]

/-- The block right of the last column but one, of one entry. -/
theorem updl_val (x : FVec Ideal (⟨2, ![2, 128]⟩ : Shape) .f32) (b : FVec Ideal (⟨3, ![1, 1, 128]⟩ : Shape) .f32) (h1 h2 h4 h5 h7) (d e : Fin 1) (k : Fin 128) :
    shapeCast (⟨3, ![1, 1, 128]⟩ : Shape) (subf b (mulf (shapeCast (⟨3, ![1, 1, 128]⟩ : Shape) (extractStridedSlice (⟨2, ![1, 128]⟩ : Shape) ![1, 0] x h1) h2)
       (shapeCast (⟨3, ![1, 1, 128]⟩ : Shape) (extractStridedSlice (⟨2, ![1, 128]⟩ : Shape) ![1, 0] x h4) h5))) h7 (ix3 d e k)
      = (b (ix3 d e k) : EReal) - x (ix2 d.succ k) * x (ix2 e.succ k) := by
  rw [shapeCast_apply _ h7 (ix3 d e k) (ix3 d e k) rfl]
  show (b (ix3 d e k) : EReal) - shapeCast (⟨3, ![1, 1, 128]⟩ : Shape) (extractStridedSlice (⟨2, ![1, 128]⟩ : Shape) ![1, 0] x h1) h2 (ix3 d e k)
    * shapeCast (⟨3, ![1, 1, 128]⟩ : Shape) (extractStridedSlice (⟨2, ![1, 128]⟩ : Shape) ![1, 0] x h4) h5 (ix3 d e k) = _
  rw [cast_mid, Fin.fin_one_eq_zero d, Fin.fin_one_eq_zero e, tail_row (n := 1)]

/-- An entry of the identity's row. -/
theorem unit_val (j : ℕ) (w : BitVec 32) (hw : w.toNat = j) (hj : j < 32) (e : Fin 32) (x : EReal) :
    Scalar.select (IntOp.cmpi .eq (BitVec.ofNat 32 e.val) w) x 0 = if e.val = j then x else 0 := by
  by_cases h : e.val = j
  · have hb : (BitVec.ofNat 32 e.val == w) = true := by
      rw [beq_iff_eq]; apply BitVec.eq_of_toNat_eq; rw [BitVec.toNat_ofNat, hw]; omega
    simp [h, hb, Scalar.select, IntOp.cmpi]
    simp [← h, hb]
  · have hb : (BitVec.ofNat 32 e.val == w) = false := by
      rw [beq_eq_false_iff_ne]; rintro rfl
      rw [BitVec.toNat_ofNat] at hw; omega
    simp [h, hb, Scalar.select, IntOp.cmpi]

/-- A row of W, as a vector. -/
theorem wvec_val (n : ℕ) (w : BitVec 32) (hw : w.toNat = n) (hn : n < 32) (hi) (l : FVec Ideal (⟨3, ![1, n, 128]⟩ : Shape) .f32) (W : FVec Ideal (⟨3, ![n, 32, 128]⟩ : Shape) .f32)
    (p : FVec Ideal (⟨3, ![1, 1, 128]⟩ : Shape) .f32) (hr) (hp) (ha) (h1 h2 h3 h4 h5) (e : Fin 32) (k : Fin 128) :
    (mulf (subf (select (cmpi .eq (iota .tc S32x128 32 [0] hi) (broadcast S32x128 w)) (broadcast S32x128 (FloatOps.ofBits .f32 0x3F800000#32))
        (broadcast S32x128 (FloatOps.ofBits .f32 0x00000000#32)))
      (multiReduction (F := Ideal) (φ := .f32) .add [0] S32x128 (mulf (broadcastTo (⟨3, ![n, 32, 128]⟩ : Shape) (shapeCast (⟨3, ![n, 1, 128]⟩ : Shape) (shapeCast (⟨2, ![n, 128]⟩ : Shape) l h1) h2) h3) W) 0x00000000#32 hr hp ha))
      (broadcastTo S32x128 (divf (broadcast S1x128 (FloatOps.ofBits .f32 0x3F800000#32)) (shapeCast S1x128 p h4)) h5)) (ix2 e k)
      = ((if e.val = n then (1 : EReal) else 0) - ∑ i : Fin n, (l (ix3 0 i k) : EReal) * W (ix3 i e k)) * FloatOps.divf (F := Ideal) (φ := .f32) (1 : EReal) (p (ix3 0 0 k)) := by
  have hb : ∀ i : Fin n, broadcastTo (⟨3, ![n, 32, 128]⟩ : Shape) (shapeCast (⟨3, ![n, 1, 128]⟩ : Shape) (shapeCast (⟨2, ![n, 128]⟩ : Shape) l h1) h2) h3 (ix3 i e k) = l (ix3 0 i k) := fun i => by
    rw [rep_mid, cast_mid, cast_unlead]
  generalize broadcastTo (⟨3, ![n, 32, 128]⟩ : Shape) (shapeCast (⟨3, ![n, 1, 128]⟩ : Shape) (shapeCast (⟨2, ![n, 128]⟩ : Shape) l h1) h2) h3 = A at hb ⊢
  pointwise
  rw [unit_val n w hw hn e]
  simp only [hb]

/-- Row 0 of W. -/
theorem wvec_val0 (w : BitVec 32) (hw : w.toNat = 0) (hi)
    (p : FVec Ideal (⟨3, ![1, 1, 128]⟩ : Shape) .f32) (h4 h5) (e : Fin 32) (k : Fin 128) :
    (mulf (select (cmpi .eq (iota .tc S32x128 32 [0] hi) (broadcast S32x128 w)) (broadcast S32x128 (FloatOps.ofBits .f32 0x3F800000#32))
        (broadcast S32x128 (FloatOps.ofBits .f32 0x00000000#32)))
      (broadcastTo S32x128 (divf (broadcast S1x128 (FloatOps.ofBits .f32 0x3F800000#32)) (shapeCast S1x128 p h4)) h5)) (ix2 e k)
      = (if e.val = 0 then (1 : EReal) else 0) * FloatOps.divf (F := Ideal) (φ := .f32) (1 : EReal) (p (ix3 0 0 k)) := by
  pointwise
  rw [unit_val 0 w hw (by omega) e]
  show _ = _ * Ideal.div 1 (p (ix3 0 0 k))
  split
  · rw [one_mul]
  · rw [zero_mul]

end Cert.FactorValue

end
-- ==== Proof.FactorStep.lean ====
/- What the factor call's two buffers hold after one more store, the store's position a parameter: the matrix being
   factored after a column and the block right of it, and W after a row. -/
module

public import proofs.«01_k».proof.Proof.FactorLayout

@[expose] public section

noncomputable section

namespace Cert.FactorValue

open Cert.FactorIdeal Cert.FactorIdeal.Gen Idealize.ShloMosaic Idealize.ShloMosaic.TcCoe Idealize.ShloMosaic.Tactic

/-- What a buffer holds after the stores of a list. -/
abbrev held (v : View sig .tc .vmem S32x32x128 .f32) (L : List (View.Piece (Elt Ideal) S32x32x128 .f32)) : Vec Ideal S32x32x128 .f32 :=
  v.read (Elt Ideal) (v.writes (Elt Ideal) v.junk L)

/-- A load from a buffer of known stores, at an index. -/
theorem load_apply (v : View sig .tc .vmem S32x32x128 .f32) (L : List (View.Piece (Elt Ideal) S32x32x128 .f32)) (o1 o2 s1 s2 : ℕ) (inb)
    (a : Fin s1) (b : Fin s2) (k : Fin 128) (A B : Fin 32) (hA : A.val = o1 + a.val) (hB : B.val = o2 + b.val) :
    v.readCov L (Rect.unit (s := S32x32x128) ![o1, o2, 0] ![s1, s2, 128] inb).toLoadRect (ix3 a b k) = held v L (ix3 A B k) := by
  show held v L ((Rect.unit (s := S32x32x128) ![o1, o2, 0] ![s1, s2, 128] inb).toLoadRect.idx (ix3 a b k)) = _
  refine congrArg _ (funext fun j => Fin.ext ?_)
  match j with
  | ⟨0, _⟩ => show o1 + 1 * a.val = A.val; omega
  | ⟨1, _⟩ => show o2 + 1 * b.val = B.val; omega
  | ⟨2, _⟩ => show 0 + 1 * k.val = k.val; omega

section Store
variable (v : View sig .tc .vmem S32x32x128 .f32) (L : List (View.Piece (Elt Ideal) S32x32x128 .f32)) (o1 o2 s1 s2 : ℕ) (inb)
  (w : (Rect.unit (s := S32x32x128) ![o1, o2, 0] ![s1, s2, 128] inb).shape.Idx → Elt Ideal .f32)

/-- Under the newest store. -/
theorem held_in (A B : Fin 32) (k : Fin 128) (a : Fin s1) (b : Fin s2) (hA : A.val = o1 + a.val) (hB : B.val = o2 + b.val) :
    held v (⟨Rect.unit (s := S32x32x128) ![o1, o2, 0] ![s1, s2, 128] inb, w⟩ :: L) (ix3 A B k) = w (ix3 a b k) :=
  View.read_writes_cons_unit_of_mem v v.junk inb w L (ix3 A B k) (ix3 a b k) rfl (fun x => by
    match x with
    | ⟨0, _⟩ => exact hA
    | ⟨1, _⟩ => exact hB
    | ⟨2, _⟩ => exact (Nat.zero_add _).symm)

/-- Beside it. -/
theorem held_out (A B : Fin 32) (k : Fin 128) (h : (A.val < o1 ∨ o1 + s1 ≤ A.val) ∨ (B.val < o2 ∨ o2 + s2 ≤ B.val)) :
    held v (⟨Rect.unit (s := S32x32x128) ![o1, o2, 0] ![s1, s2, 128] inb, w⟩ :: L) (ix3 A B k) = held v L (ix3 A B k) := by
  rcases h with h | h
  · exact View.read_writes_cons_unit_of_not_mem v v.junk inb w L (ix3 A B k) rfl (0 : Fin 3) h
  · exact View.read_writes_cons_unit_of_not_mem v v.junk inb w L (ix3 A B k) rfl (1 : Fin 3) h

end Store

/-- The first `n` rows are those of `M`. -/
def Rows (M : Mat) (n : ℕ) (X : Vec Ideal S32x32x128 .f32) : Prop :=
  ∀ (d e : Fin 32) (k : Fin 128), d.val < n → (X (ix3 d e k) : EReal) = M d.val e.val k

theorem rows_nil (M : Mat) (X : Vec Ideal S32x32x128 .f32) : Rows M 0 X := fun _ _ _ h => absurd h (Nat.not_lt_zero _)

theorem rows_cons (M : Mat) (v : View sig .tc .vmem S32x32x128 .f32) (L : List (View.Piece (Elt Ideal) S32x32x128 .f32)) (n : ℕ) (inb)
    (w : (Rect.unit (s := S32x32x128) ![n, 0, 0] ![1, 32, 128] inb).shape.Idx → Elt Ideal .f32) (hL : Rows M n (held v L))
    (hw : Rows M n (held v L) → ∀ (e : Fin 32) (k : Fin 128), (w (ix3 0 e k) : EReal) = M n e.val k) :
    Rows M (n + 1) (held v (⟨Rect.unit (s := S32x32x128) ![n, 0, 0] ![1, 32, 128] inb, w⟩ :: L)) := by
  intro d e k hd
  by_cases h : d.val = n
  · rw [held_in v L n 0 1 32 inb w d e k 0 e (by simp [h]) (by simp), hw hL, h]
  · rw [held_out v L n 0 1 32 inb w d e k (.inl (.inl (by omega)))]
    exact hL d e k (by omega)

/-- After `n` columns: the first `n` are the factor's, the rest is what is left of the matrix. -/
def Done (M : Mat) (n : ℕ) (X : Vec Ideal S32x32x128 .f32) : Prop :=
  (∀ (d e : Fin 32) (k : Fin 128), n ≤ d.val → n ≤ e.val → (X (ix3 d e k) : EReal) = rest M n d.val e.val k)
    ∧ ∀ (d i : Fin 32) (k : Fin 128), i.val < n → i.val ≤ d.val → (X (ix3 d i k) : EReal) = chol M d.val i.val k

theorem done_zero (M : Mat) (X : Vec Ideal S32x32x128 .f32) (h : Rows M 32 X) : Done M 0 X :=
  ⟨fun d e k _ _ => h d e k d.isLt, fun _ _ _ h => absurd h (Nat.not_lt_zero _)⟩

/-- A column stored: `n` rows from row `j` on. -/
theorem done_col (M : Mat) (v : View sig .tc .vmem S32x32x128 .f32) (L : List (View.Piece (Elt Ideal) S32x32x128 .f32)) (j n : ℕ) (hj : j + n = 32) (inb)
    (w : (Rect.unit (s := S32x32x128) ![j, j, 0] ![n, 1, 128] inb).shape.Idx → Elt Ideal .f32) (hL : Done M j (held v L))
    (hw : ∀ (d : Fin n) (k : Fin 128), (w (ix3 d 0 k) : EReal) = colOf (rest M j) j (j + d.val) k) :
    (∀ (d e : Fin 32) (k : Fin 128), j < d.val → j < e.val →
        (held v (⟨Rect.unit (s := S32x32x128) ![j, j, 0] ![n, 1, 128] inb, w⟩ :: L) (ix3 d e k) : EReal) = rest M j d.val e.val k)
      ∧ ∀ (d i : Fin 32) (k : Fin 128), i.val < j + 1 → i.val ≤ d.val →
        (held v (⟨Rect.unit (s := S32x32x128) ![j, j, 0] ![n, 1, 128] inb, w⟩ :: L) (ix3 d i k) : EReal) = chol M d.val i.val k := by
  refine ⟨fun d e k hd he => ?_, fun d i k hi hd => ?_⟩
  · rw [held_out v L j j n 1 inb w d e k (.inr (.inr (by omega)))]
    exact hL.1 d e k (by omega) (by omega)
  · have hd32 := d.isLt
    by_cases h : i.val = j
    · rw [held_in v L j j n 1 inb w d i k ⟨d.val - j, by omega⟩ 0 (by simp; omega) (by simp [h]), hw]
      show colOf (rest M j) j (j + (d.val - j)) k = colOf (rest M i.val) i.val d.val k
      rw [h, Nat.add_sub_cancel' (by omega)]
    · rw [held_out v L j j n 1 inb w d i k (.inr (.inl (by omega)))]
      exact hL.2 d i k (by omega) hd

/-- Then the block right of it. -/
theorem done_upd (M : Mat) (v : View sig .tc .vmem S32x32x128 .f32) (L : List (View.Piece (Elt Ideal) S32x32x128 .f32)) (j j' n : ℕ) (hj' : j' = j + 1) (hj : j' + n = 32) (inb)
    (w : (Rect.unit (s := S32x32x128) ![j', j', 0] ![n, n, 128] inb).shape.Idx → Elt Ideal .f32)
    (hL : ∀ (d i : Fin 32) (k : Fin 128), i.val < j + 1 → i.val ≤ d.val → (held v L (ix3 d i k) : EReal) = chol M d.val i.val k)
    (hw : ∀ (d e : Fin n) (k : Fin 128), (w (ix3 d e k) : EReal) = rest M (j + 1) (j' + d.val) (j' + e.val) k) :
    Done M j' (held v (⟨Rect.unit (s := S32x32x128) ![j', j', 0] ![n, n, 128] inb, w⟩ :: L)) := by
  subst hj'
  refine ⟨fun d e k hd he => ?_, fun d i k hi hd => ?_⟩
  · have hd32 := d.isLt
    have he32 := e.isLt
    rw [held_in v L (j + 1) (j + 1) n n inb w d e k ⟨d.val - (j + 1), by omega⟩ ⟨e.val - (j + 1), by omega⟩ (by simp; omega) (by simp; omega), hw]
    show rest M (j + 1) (j + 1 + (d.val - (j + 1))) (j + 1 + (e.val - (j + 1))) k = _
    rw [Nat.add_sub_cancel' hd, Nat.add_sub_cancel' he]
  · rw [held_out v L (j + 1) (j + 1) n n inb w d i k (.inr (.inl (by omega)))]
    exact hL d i k hi hd

section Step
variable (M : Mat) (v : View sig .tc .vmem S32x32x128 .f32) (L : List (View.Piece (Elt Ideal) S32x32x128 .f32)) (j j' n n' : ℕ) (hj' : j' = j + 1) (hn : n = n' + 1) (hj : j' + n' = 32)
  (i1) (i2) (hL : Done M j (held v L))
  (w1 : (Rect.unit (s := S32x32x128) ![j, j, 0] ![n, 1, 128] i1).shape.Idx → Elt Ideal .f32)
  (w2 : (Rect.unit (s := S32x32x128) ![j', j', 0] ![n', n', 128] i2).shape.Idx → Elt Ideal .f32)
  (x : FVec Ideal (⟨2, ![n, 128]⟩ : Shape) .f32) (i3) (i4) (i5)

/-- The column that is computed from what the buffer holds is the factor's. -/
theorem colval (v : View sig .tc .vmem S32x32x128 .f32) (L : List (View.Piece (Elt Ideal) S32x32x128 .f32)) (j n : ℕ) (hj : j + n = 32) (i3) (i4) (hL : Done M j (held v L)) (d : Fin n) (k : Fin 128) :
    (v.readCov L (Rect.unit (s := S32x32x128) ![j, j, 0] ![n, 1, 128] i4).toLoadRect (ix3 d 0 k) : EReal)
      * Ideal.rsqrt (v.readCov L (Rect.unit (s := S32x32x128) ![j, j, 0] ![1, 1, 128] i3).toLoadRect (ix3 0 0 k)) = colOf (rest M j) j (j + d.val) k := by
  have hd := d.isLt
  rw [load_apply v L j j n 1 i4 d 0 k ⟨j + d.val, by omega⟩ ⟨j, by omega⟩ rfl rfl, load_apply v L j j 1 1 i3 0 0 k ⟨j, by omega⟩ ⟨j, by omega⟩ rfl rfl,
    hL.1 _ _ k (Nat.le_add_right _ _) (Nat.le_refl _), hL.1 _ _ k (Nat.le_refl _) (Nat.le_refl _)]
  rfl

include hj' hn hj hL in
/-- One column and the block right of it. -/
theorem done_step
    (h1 : ∀ (d : Fin n) (k : Fin 128), (w1 (ix3 d 0 k) : EReal) = (v.readCov L (Rect.unit (s := S32x32x128) ![j, j, 0] ![n, 1, 128] i4).toLoadRect (ix3 d 0 k) : EReal)
      * Ideal.rsqrt (v.readCov L (Rect.unit (s := S32x32x128) ![j, j, 0] ![1, 1, 128] i3).toLoadRect (ix3 0 0 k)))
    (hx : ∀ (d : Fin n) (k : Fin 128), (x (ix2 d k) : EReal) = (v.readCov L (Rect.unit (s := S32x32x128) ![j, j, 0] ![n, 1, 128] i4).toLoadRect (ix3 d 0 k) : EReal)
      * Ideal.rsqrt (v.readCov L (Rect.unit (s := S32x32x128) ![j, j, 0] ![1, 1, 128] i3).toLoadRect (ix3 0 0 k)))
    (h2 : ∀ (d e : Fin n') (k : Fin 128), (w2 (ix3 d e k) : EReal)
      = (v.readCov (⟨Rect.unit (s := S32x32x128) ![j, j, 0] ![n, 1, 128] i1, w1⟩ :: L) (Rect.unit (s := S32x32x128) ![j', j', 0] ![n', n', 128] i5).toLoadRect (ix3 d e k) : EReal)
        - x (ix2 (d.succ.cast hn.symm) k) * x (ix2 (e.succ.cast hn.symm) k)) :
    Done M j' (held v (⟨Rect.unit (s := S32x32x128) ![j', j', 0] ![n', n', 128] i2, w2⟩ :: ⟨Rect.unit (s := S32x32x128) ![j, j, 0] ![n, 1, 128] i1, w1⟩ :: L)) := by
  have hc := done_col M v L j n (by omega) i1 w1 hL (fun d k => (h1 d k).trans (colval M v L j n (by omega) i3 i4 hL d k))
  refine done_upd M v _ j j' n' hj' hj i2 w2 hc.2 fun d e k => ?_
  have hd := d.isLt
  have he := e.isLt
  rw [h2, load_apply v _ j' j' n' n' i5 d e k ⟨j' + d.val, by omega⟩ ⟨j' + e.val, by omega⟩ rfl rfl, hc.1 _ _ k (show j < j' + d.val by omega) (show j < j' + e.val by omega), hx, hx,
    colval M v L j n (by omega) i3 i4 hL, colval M v L j n (by omega) i3 i4 hL]
  show rest M j (j' + d.val) (j' + e.val) k - colOf (rest M j) j (j + (d.val + 1)) k * colOf (rest M j) j (j + (e.val + 1)) k
    = rest M j (j' + d.val) (j' + e.val) k - colOf (rest M j) j (j' + d.val) k * colOf (rest M j) j (j' + e.val) k
  rw [show j + (d.val + 1) = j' + d.val by omega, show j + (e.val + 1) = j' + e.val by omega]

end Step

end Cert.FactorValue

end
-- ==== Proof.FactorFill.lean ====
/- A row of the covariance as the factor call computes it, the row a parameter: the Gram matrix of L_0, the batch's second
   moments with the mean's products taken off, the products of the mean's distance from mu_0, and the identity. -/
module

public import proofs.«01_k».proof.Proof.FactorStep

@[expose] public section

noncomputable section

namespace Cert.FactorValue

open Cert.FactorIdeal Cert.FactorIdeal.Gen Idealize.ShloMosaic Idealize.ShloMosaic.TcCoe Idealize.ShloMosaic.Tactic

/-- The covariance plus the identity. Of the second moments `s2` only the blocks of 8 on and right of the diagonal are read:
    the others are their mirror images. -/
def cov (a b g : EReal) (s2 : FVec Ideal S32x32x128 .f32) (xm xd : FVec Ideal S32x128 .f32) (l0 : FVec Ideal S32x32x128 .f32) : Mat := fun d e k =>
  (((∑ f : Fin 32, (l0 (ix3 (Fin.ofNat 32 d) f k) : EReal) * l0 (ix3 (Fin.ofNat 32 e) f k)) * a
    + ((if 8 * (d / 8) ≤ e then (s2 (ix3 (Fin.ofNat 32 d) (Fin.ofNat 32 e) k) : EReal) else s2 (ix3 (Fin.ofNat 32 e) (Fin.ofNat 32 d) k))
      - FloatOps.ofBits (F := Ideal) .f32 0x46800000#32 * ((xm (ix2 (Fin.ofNat 32 d) k) : EReal) * xm (ix2 (Fin.ofNat 32 e) k))) * b)
    + ((xd (ix2 (Fin.ofNat 32 d) k) : EReal) * xd (ix2 (Fin.ofNat 32 e) k)) * g) + if e = d then (1 : EReal) else 0

theorem ofNat_val (e : Fin 32) : Fin.ofNat 32 e.val = e := Fin.ext (Nat.mod_eq_of_lt e.isLt)

/-- Row `d` of a matrix. -/
theorem mat_row (x : FVec Ideal S32x32x128 .f32) (d : ℕ) (hd : d < 32) (h) (e : Fin 1) (f : Fin 32) (k : Fin 128) :
    extractStridedSlice S1x32x128 ![d, 0, 0] x h (ix3 e f k) = x (ix3 (Fin.ofNat 32 d) f k) :=
  extractStridedSlice_apply _ x h _ _ (fun a => by
    match a with
    | ⟨0, _⟩ => show d % 32 = d + e.val; omega
    | ⟨1, _⟩ => show f.val = 0 + f.val; omega
    | ⟨2, _⟩ => show k.val = 0 + k.val; omega)

/-- Column `d` of a matrix. -/
theorem mat_col (x : FVec Ideal S32x32x128 .f32) (d : ℕ) (hd : d < 32) (h) (e : Fin 1) (f : Fin 32) (k : Fin 128) :
    extractStridedSlice S32x1x128 ![0, d, 0] x h (ix3 f e k) = x (ix3 f (Fin.ofNat 32 d) k) :=
  extractStridedSlice_apply _ x h _ _ (fun a => by
    match a with
    | ⟨0, _⟩ => show f.val = 0 + f.val; omega
    | ⟨1, _⟩ => show d % 32 = d + e.val; omega
    | ⟨2, _⟩ => show k.val = 0 + k.val; omega)

/-- Entry `d` of a vector. -/
theorem vec_row (x : FVec Ideal S32x128 .f32) (d : ℕ) (hd : d < 32) (h) (e : Fin 1) (k : Fin 128) :
    extractStridedSlice S1x128 ![d, 0] x h (ix2 e k) = x (ix2 (Fin.ofNat 32 d) k) :=
  extractStridedSlice_apply _ x h _ _ (fun a => by
    match a with
    | ⟨0, _⟩ => show d % 32 = d + e.val; omega
    | ⟨1, _⟩ => show k.val = 0 + k.val; omega)

/-- A choice by a row's position. -/
theorem from_val (j : ℕ) (w : BitVec 32) (hw : w.toNat = j) (hj : j < 32) (e : Fin 32) (x y : EReal) :
    Scalar.select (IntOp.cmpi .sge (BitVec.ofNat 32 e.val) w) x y = if j ≤ e.val then x else y := by
  have he := e.isLt
  have hs : (BitVec.ofNat 32 e.val).toInt = e.val := by
    rw [BitVec.toInt_eq_toNat_of_lt (by rw [BitVec.toNat_ofNat]; omega), BitVec.toNat_ofNat]; omega
  have hw' : w.toInt = j := by rw [BitVec.toInt_eq_toNat_of_lt (by omega), hw]
  have hb : (w.sle (BitVec.ofNat 32 e.val)) = decide (j ≤ e.val) := by
    rw [BitVec.sle, hs, hw']; simp
  by_cases h : j ≤ e.val
  · simp [Scalar.select, IntOp.cmpi, hb, h]
  · simp [Scalar.select, IntOp.cmpi, hb, h]

/-- A row of the covariance. -/
theorem fill_val (d : ℕ) (hd : d < 32) (e0 wd : BitVec 32) (he0 : e0.toNat = 8 * (d / 8)) (hwd : wd.toNat = d) (a b g : EReal)
    (s2 : FVec Ideal S32x32x128 .f32) (xm xd : FVec Ideal S32x128 .f32) (l0 : FVec Ideal S32x32x128 .f32) (hi)
    (h1 h2 h3 h4 h5 h6 h7 h8 h9 h10 h11 h12 h13 h14 h15) (e : Fin 32) (k : Fin 128) :
    (shapeCast S1x32x128 (addf (F := Ideal) (φ := .f32) (addf (addf (mulf (multiReduction (F := Ideal) (φ := .f32) .add [1] S32x128 (mulf (broadcastTo S32x32x128 (extractStridedSlice S1x32x128 ![d, 0, 0] l0 h1) h2) l0) 0x00000000#32 h3 h4 h5) (broadcast S32x128 a))
      (mulf (subf (select (cmpi .sge (iota .tc S32x128 32 [0] hi) (broadcast S32x128 e0)) (shapeCast S32x128 (extractStridedSlice S1x32x128 ![d, 0, 0] s2 h6) h7)
          (shapeCast S32x128 (extractStridedSlice S32x1x128 ![0, d, 0] s2 h8) h9))
        (mulf (broadcast S32x128 (FloatOps.ofBits .f32 0x46800000#32)) (mulf (broadcastTo S32x128 (extractStridedSlice S1x128 ![d, 0] xm h10) h11) xm))) (broadcast S32x128 b)))
      (mulf (mulf (broadcastTo S32x128 (extractStridedSlice S1x128 ![d, 0] xd h12) h13) xd) (broadcast S32x128 g)))
      (select (cmpi .eq (iota .tc S32x128 32 [0] h14) (broadcast S32x128 wd)) (broadcast S32x128 (FloatOps.ofBits .f32 0x3F800000#32)) (broadcast S32x128 (FloatOps.ofBits .f32 0x00000000#32)))) h15 (ix3 0 e k) : EReal)
      = cov a b g s2 xm xd l0 d e.val k := by
  have r1 : ∀ (x : Fin 32) (f : Fin 32), broadcastTo S32x32x128 (extractStridedSlice S1x32x128 ![d, 0, 0] l0 h1) h2 (ix3 x f k) = l0 (ix3 (Fin.ofNat 32 d) f k) := fun x f =>
    (rep_lead (n := 32) (m := 32) _ h2 x f k).trans (mat_row l0 d hd h1 0 f k)
  have r2 : shapeCast S32x128 (extractStridedSlice S1x32x128 ![d, 0, 0] s2 h6) h7 (ix2 e k) = s2 (ix3 (Fin.ofNat 32 d) e k) := (cast_unlead (n := 32) _ h7 e k).trans (mat_row s2 d hd h6 0 e k)
  have r3 : shapeCast S32x128 (extractStridedSlice S32x1x128 ![0, d, 0] s2 h8) h9 (ix2 e k) = s2 (ix3 e (Fin.ofNat 32 d) k) := (cast_unmid (n := 32) _ h9 e k).trans (mat_col s2 d hd h8 0 e k)
  have r4 : broadcastTo S32x128 (extractStridedSlice S1x128 ![d, 0] xm h10) h11 (ix2 e k) = xm (ix2 (Fin.ofNat 32 d) k) := (rep_row (n := 32) _ h11 e k).trans (vec_row xm d hd h10 0 k)
  have r5 : broadcastTo S32x128 (extractStridedSlice S1x128 ![d, 0] xd h12) h13 (ix2 e k) = xd (ix2 (Fin.ofNat 32 d) k) := (rep_row (n := 32) _ h13 e k).trans (vec_row xd d hd h12 0 k)
  refine (cast_lead (n := 32) _ h15 e 0 k).trans ?_
  generalize broadcastTo S32x32x128 (extractStridedSlice S1x32x128 ![d, 0, 0] l0 h1) h2 = A at r1 ⊢
  generalize shapeCast S32x128 (extractStridedSlice S1x32x128 ![d, 0, 0] s2 h6) h7 = B at r2 ⊢
  generalize shapeCast S32x128 (extractStridedSlice S32x1x128 ![0, d, 0] s2 h8) h9 = C at r3 ⊢
  generalize broadcastTo S32x128 (extractStridedSlice S1x128 ![d, 0] xm h10) h11 = D at r4 ⊢
  generalize broadcastTo S32x128 (extractStridedSlice S1x128 ![d, 0] xd h12) h13 = G at r5 ⊢
  unfold cov
  rw [ofNat_val, ← r2, ← r3, ← r4, ← r5]
  simp only [← r1 e]
  rw [← from_val (8 * (d / 8)) e0 he0 (by omega) e (B (ix2 e k)) (C (ix2 e k)), ← unit_val d wd hwd hd e 1]
  pointwise

end Cert.FactorValue

end
-- ==== Proof.FactorTrip.lean ====
/- One trip of the reference's loop, on indices: a column of the factor, the matrix that is left, a row of the factor's
   inverse. -/
module

public import proofs.«01_k».proof.Proof.FactorFill
public import proofs.«01_k».proof.Proof.Gen.FactorReferenceIdeal.Run
public import Idealize.ShloMosaic.Lib.DynamicIndex

@[expose] public section

set_option maxRecDepth 8192

noncomputable section

namespace Cert.FactorLoop

open Cert.FactorReferenceIdeal Cert.FactorReferenceIdeal.Value Cert.FactorValue Idealize.ShloMosaic Idealize.ShloMosaic.TcCoe Idealize.ShloMosaic.Tactic
open Cert.FactorReferenceIdeal.Gen

section Slices
variable {α : Type} (n : ℕ) (hn : n < 32)

/-- The trip's number, as it is read for a slice's start. -/
theorem wrap (J : IVec S_ 32) (hJ : J = fun _ => BitVec.ofNat 32 n) (hn : n < 32) (j : S_.Idx) :
    (select (cmpi .slt J (constantI S_ 32 0#32)) (addi (id J) (constantI S_ 32 32#32)) J j).toInt = n := by
  subst hJ
  have h : (BitVec.ofNat 32 n).toInt = n := toInt_ofNat_of_lt (by omega)
  rw [select_slt_zero_of_nonneg _ _ _ _ (by show 0 ≤ (BitVec.ofNat 32 n).toInt; rw [h]; omega)]
  exact h

/-- A column taken out. -/
theorem col_slice (x : S32x32x128.Idx → α) (start : Fin 3 → Int) (h) (h0 : start 0 = 0) (h1 : start 1 = n) (h2 : start 2 = 0) (d : Fin 32) (k : Fin 128) :
    Host.dynamicSlice S32x1x128 x start h (ix3 d 0 k) = x (ix3 d ⟨n, hn⟩ k) := by
  rw [Host.dynamicSlice_eq_extractStridedSlice S32x1x128 x start ![0, n, 0] h ⟨rfl, fun a => by
      match a with
      | ⟨0, _⟩ => show 0 + 32 ≤ 32; omega
      | ⟨1, _⟩ => show n + 1 ≤ 32; omega
      | ⟨2, _⟩ => show 0 + 128 ≤ 128; omega⟩ (fun a => by
      match a with
      | ⟨0, _⟩ => exact h0
      | ⟨1, _⟩ => exact h1
      | ⟨2, _⟩ => exact h2)]
  exact extractStridedSlice_apply _ x _ _ _ (fun a => by
    match a with
    | ⟨0, _⟩ => show d.val = 0 + d.val; omega
    | ⟨1, _⟩ => show n = n + 0; omega
    | ⟨2, _⟩ => show k.val = 0 + k.val; omega)

/-- A row taken out. -/
theorem row_slice (x : S32x32x128.Idx → α) (start : Fin 3 → Int) (h) (h0 : start 0 = n) (h1 : start 1 = 0) (h2 : start 2 = 0) (d : Fin 32) (k : Fin 128) :
    Host.dynamicSlice S1x32x128 x start h (ix3 0 d k) = x (ix3 ⟨n, hn⟩ d k) := by
  rw [Host.dynamicSlice_eq_extractStridedSlice S1x32x128 x start ![n, 0, 0] h ⟨rfl, fun a => by
      match a with
      | ⟨0, _⟩ => show n + 1 ≤ 32; omega
      | ⟨1, _⟩ => show 0 + 32 ≤ 32; omega
      | ⟨2, _⟩ => show 0 + 128 ≤ 128; omega⟩ (fun a => by
      match a with
      | ⟨0, _⟩ => exact h0
      | ⟨1, _⟩ => exact h1
      | ⟨2, _⟩ => exact h2)]
  exact extractStridedSlice_apply _ x _ _ _ (fun a => by
    match a with
    | ⟨0, _⟩ => show n = n + 0; omega
    | ⟨1, _⟩ => show d.val = 0 + d.val; omega
    | ⟨2, _⟩ => show k.val = 0 + k.val; omega)

/-- An entry of a vector taken out. -/
theorem vec_slice (x : S32x128.Idx → α) (start : Fin 2 → Int) (h) (h0 : start 0 = n) (h1 : start 1 = 0) (k : Fin 128) :
    Host.dynamicSlice S1x128 x start h (ix2 0 k) = x (ix2 ⟨n, hn⟩ k) := by
  rw [Host.dynamicSlice_eq_extractStridedSlice S1x128 x start ![n, 0] h ⟨rfl, fun a => by
      match a with
      | ⟨0, _⟩ => show n + 1 ≤ 32; omega
      | ⟨1, _⟩ => show 0 + 128 ≤ 128; omega⟩ (fun a => by
      match a with
      | ⟨0, _⟩ => exact h0
      | ⟨1, _⟩ => exact h1)]
  exact extractStridedSlice_apply _ x _ _ _ (fun a => by
    match a with
    | ⟨0, _⟩ => show n = n + 0; omega
    | ⟨1, _⟩ => show k.val = 0 + k.val; omega)

/-- A column put in. -/
theorem col_update (x : S32x32x128.Idx → α) (u : S32x1x128.Idx → α) (start : Fin 3 → Int) (h) (h0 : start 0 = 0) (h1 : start 1 = n) (h2 : start 2 = 0) (hn : n < 32)
    (d e : Fin 32) (k : Fin 128) :
    Host.dynamicUpdateSlice x u start h (ix3 d e k) = if e.val = n then u (ix3 d 0 k) else x (ix3 d e k) := by
  have c0 : Host.clampedStart S32x32x128 S32x1x128 h.1 start 0 = 0 := Host.clampedStart_of_le h.1 start 0 0 h0 (by show 0 + 32 ≤ 32; omega)
  have c1 : Host.clampedStart S32x32x128 S32x1x128 h.1 start 1 = n := Host.clampedStart_of_le h.1 start 1 n h1 (by show n + 1 ≤ 32; omega)
  have c2 : Host.clampedStart S32x32x128 S32x1x128 h.1 start 2 = 0 := Host.clampedStart_of_le h.1 start 2 0 h2 (by show 0 + 128 ≤ 128; omega)
  rw [Host.dynamicUpdateSlice_apply]
  by_cases he : e.val = n
  · rw [dif_pos (fun a => by
      match a with
      | ⟨0, _⟩ => exact ⟨by rw [show (⟨0, _⟩ : Fin 3) = 0 from rfl, c0]; exact Nat.zero_le _, by rw [show (⟨0, _⟩ : Fin 3) = 0 from rfl, c0]; show d.val < 0 + 32; omega⟩
      | ⟨1, _⟩ => exact ⟨by rw [show (⟨1, _⟩ : Fin 3) = 1 from rfl, c1]; show n ≤ e.val; omega, by rw [show (⟨1, _⟩ : Fin 3) = 1 from rfl, c1]; show e.val < n + 1; omega⟩
      | ⟨2, _⟩ => exact ⟨by rw [show (⟨2, _⟩ : Fin 3) = 2 from rfl, c2]; exact Nat.zero_le _, by rw [show (⟨2, _⟩ : Fin 3) = 2 from rfl, c2]; show k.val < 0 + 128; omega⟩), if_pos he]
    congr 1
    funext a; apply Fin.ext
    match a with
    | ⟨0, _⟩ => show d.val - Host.clampedStart S32x32x128 S32x1x128 h.1 start 0 = d.val; omega
    | ⟨1, _⟩ => show e.val - Host.clampedStart S32x32x128 S32x1x128 h.1 start 1 = 0; omega
    | ⟨2, _⟩ => show k.val - Host.clampedStart S32x32x128 S32x1x128 h.1 start 2 = k.val; omega
  · rw [dif_neg (fun hin => ?_), if_neg he]
    have := hin 1
    rw [c1] at this
    have h1 : n ≤ e.val := this.1
    have h2 : e.val < n + 1 := this.2
    omega

/-- A row put in. -/
theorem row_update (x : S32x32x128.Idx → α) (u : S1x32x128.Idx → α) (start : Fin 3 → Int) (h) (h0 : start 0 = n) (h1 : start 1 = 0) (h2 : start 2 = 0) (hn : n < 32)
    (d e : Fin 32) (k : Fin 128) :
    Host.dynamicUpdateSlice x u start h (ix3 d e k) = if d.val = n then u (ix3 0 e k) else x (ix3 d e k) := by
  have c0 : Host.clampedStart S32x32x128 S1x32x128 h.1 start 0 = n := Host.clampedStart_of_le h.1 start 0 n h0 (by show n + 1 ≤ 32; omega)
  have c1 : Host.clampedStart S32x32x128 S1x32x128 h.1 start 1 = 0 := Host.clampedStart_of_le h.1 start 1 0 h1 (by show 0 + 32 ≤ 32; omega)
  have c2 : Host.clampedStart S32x32x128 S1x32x128 h.1 start 2 = 0 := Host.clampedStart_of_le h.1 start 2 0 h2 (by show 0 + 128 ≤ 128; omega)
  rw [Host.dynamicUpdateSlice_apply]
  by_cases he : d.val = n
  · rw [dif_pos (fun a => by
      match a with
      | ⟨0, _⟩ => exact ⟨by rw [show (⟨0, _⟩ : Fin 3) = 0 from rfl, c0]; show n ≤ d.val; omega, by rw [show (⟨0, _⟩ : Fin 3) = 0 from rfl, c0]; show d.val < n + 1; omega⟩
      | ⟨1, _⟩ => exact ⟨by rw [show (⟨1, _⟩ : Fin 3) = 1 from rfl, c1]; exact Nat.zero_le _, by rw [show (⟨1, _⟩ : Fin 3) = 1 from rfl, c1]; show e.val < 0 + 32; omega⟩
      | ⟨2, _⟩ => exact ⟨by rw [show (⟨2, _⟩ : Fin 3) = 2 from rfl, c2]; exact Nat.zero_le _, by rw [show (⟨2, _⟩ : Fin 3) = 2 from rfl, c2]; show k.val < 0 + 128; omega⟩), if_pos he]
    congr 1
    funext a; apply Fin.ext
    match a with
    | ⟨0, _⟩ => show d.val - Host.clampedStart S32x32x128 S1x32x128 h.1 start 0 = 0; omega
    | ⟨1, _⟩ => show e.val - Host.clampedStart S32x32x128 S1x32x128 h.1 start 1 = e.val; omega
    | ⟨2, _⟩ => show k.val - Host.clampedStart S32x32x128 S1x32x128 h.1 start 2 = k.val; omega
  · rw [dif_neg (fun hin => ?_), if_neg he]
    have := hin 0
    rw [c0] at this
    have h1 : n ≤ d.val := this.1
    have h2 : d.val < n + 1 := this.2
    omega

/-- A vector along the rows. -/
theorem along_rows (x : S32x128.Idx → α) (h1 h2) (d e : Fin 32) (k : Fin 128) :
    broadcastInDim S32x32x128 ![0, 1, 2] h2 (broadcastInDim S32x1x128 ![0, 2] h1 x) (ix3 d e k) = x (ix2 d k) :=
  (broadcastInDim_apply _ h2 _ (ix3 d e k) (ix3 d 0 k) (fun a => by
    match a with
    | ⟨0, _⟩ => rfl
    | ⟨1, _⟩ => rfl
    | ⟨2, _⟩ => rfl)).trans (broadcastInDim_apply _ h1 x (ix3 d 0 k) (ix2 d k) (fun a => by
    match a with
    | ⟨0, _⟩ => rfl
    | ⟨1, _⟩ => rfl))

/-- A vector along the columns. -/
theorem along_cols (x : S32x128.Idx → α) (h1 h2) (d e : Fin 32) (k : Fin 128) :
    broadcastInDim S32x32x128 ![0, 1, 2] h2 (broadcastInDim S1x32x128 ![1, 2] h1 x) (ix3 d e k) = x (ix2 e k) :=
  (broadcastInDim_apply _ h2 _ (ix3 d e k) (ix3 0 e k) (fun a => by
    match a with
    | ⟨0, _⟩ => rfl
    | ⟨1, _⟩ => rfl
    | ⟨2, _⟩ => rfl)).trans (broadcastInDim_apply _ h1 x (ix3 0 e k) (ix2 e k) (fun a => by
    match a with
    | ⟨0, _⟩ => rfl
    | ⟨1, _⟩ => rfl))

/-- A vector as a matrix of one column. -/
theorem as_col (x : S32x128.Idx → α) (h1) (d : Fin 32) (k : Fin 128) : broadcastInDim S32x1x128 ![0, 2] h1 x (ix3 d 0 k) = x (ix2 d k) :=
  broadcastInDim_apply _ h1 x (ix3 d 0 k) (ix2 d k) (fun a => by
    match a with
    | ⟨0, _⟩ => rfl
    | ⟨1, _⟩ => rfl)

/-- A vector as a matrix of one row. -/
theorem as_row (x : S32x128.Idx → α) (h1) (d : Fin 32) (k : Fin 128) : broadcastInDim S1x32x128 ![1, 2] h1 x (ix3 0 d k) = x (ix2 d k) :=
  broadcastInDim_apply _ h1 x (ix3 0 d k) (ix2 d k) (fun a => by
    match a with
    | ⟨0, _⟩ => rfl
    | ⟨1, _⟩ => rfl)

/-- One entry repeated. -/
theorem repeated (x : S1x128.Idx → α) (h1) (d : Fin 32) (k : Fin 128) : broadcastInDim S32x128 ![0, 1] h1 x (ix2 d k) = x (ix2 0 k) :=
  broadcastInDim_apply _ h1 x (ix2 d k) (ix2 0 k) (fun a => by
    match a with
    | ⟨0, _⟩ => rfl
    | ⟨1, _⟩ => rfl)

end Slices

/-- The rows' numbers, as the loop carries them. -/
abbrev rowsOf (V : Valuation τ sig (Elt Ideal)) : IVec S32x128 32 := V (Proc.devRef .tc main_v60_0)
/-- The zeros. -/
abbrev zerosOf (V : Valuation τ sig (Elt Ideal)) : FVec Ideal S32x128 .f32 := V (Proc.devRef .tc main_v60_1)
/-- The ones. -/
abbrev onesOf (V : Valuation τ sig (Elt Ideal)) : FVec Ideal S32x128 .f32 := V (Proc.devRef .tc main_v60_2)
/-- The trip's number. -/
abbrev ctrOf (V : Valuation τ sig (Elt Ideal)) : IVec S_ 32 := V (Proc.devRef .tc main_v60_4)
/-- The matrix that is left. -/
abbrev leftOf (V : Valuation τ sig (Elt Ideal)) : FVec Ideal S32x32x128 .f32 := V (Proc.devRef .tc main_v60_5)
/-- The factor so far. -/
abbrev factOf (V : Valuation τ sig (Elt Ideal)) : FVec Ideal S32x32x128 .f32 := V (Proc.devRef .tc main_v60_6)
/-- The factor's inverse so far. -/
abbrev invOf (V : Valuation τ sig (Elt Ideal)) : FVec Ideal S32x32x128 .f32 := V (Proc.devRef .tc main_v60_7)
/-- The matrix's column. -/
abbrev v84 (V : Valuation τ sig (Elt Ideal)) : FVec Ideal S32x128 .f32 := res_main_while0b_v84 V
/-- The factor's column. -/
abbrev v92 (V : Valuation τ sig (Elt Ideal)) : FVec Ideal S32x128 .f32 := res_main_while0b_v92 V
/-- The factor with its new column. -/
abbrev v100 (V : Valuation τ sig (Elt Ideal)) : FVec Ideal S32x32x128 .f32 := res_main_while0b_v100 V
/-- The factor's row. -/
abbrev v101 (V : Valuation τ sig (Elt Ideal)) : FVec Ideal S32x128 .f32 := res_main_while0b_v101 V
/-- The matrix that is left after the trip. -/
abbrev leftNext (V : Valuation τ sig (Elt Ideal)) : FVec Ideal S32x32x128 .f32 := step_main_v60_5 V
/-- The inverse after the trip. -/
abbrev invNext (V : Valuation τ sig (Elt Ideal)) : FVec Ideal S32x32x128 .f32 := step_main_v60_7 V
/-- The trip's number as it starts a slice of a vector. -/
abbrev startOf (V : Valuation τ sig (Elt Ideal)) : Fin 2 → Int := fun k => (((![select (cmpi .slt (ctrOf V) (constantI S_ 32 0#32)) (addi (id (ctrOf V)) (constantI S_ 32 32#32)) (ctrOf V), constantI S_ 32 0#32] : Fin 2 → IVec S_ 32)) k (Shape.Idx.first h_S_)).toInt

/-- The root of the pivot, repeated. -/
abbrev pivots (V : Valuation τ sig (Elt Ideal)) : FVec Ideal S32x128 .f32 := broadcastInDim S32x128 ![0, 1] bcast_S1x128_S32x128_0_1 (Host.rsqrt (Host.dynamicSlice S1x128 (v84 V) (startOf V) sliceFits_S32x128_S1x128))
/-- One over the factor's pivot, repeated. -/
abbrev recips (V : Valuation τ sig (Elt Ideal)) : FVec Ideal S32x128 .f32 := broadcastInDim S32x128 ![0, 1] bcast_S1x128_S32x128_0_1 (Host.divf (broadcastInDim S1x128 ![] bcast_S_S1x128 (constant (F := Ideal) S_ .f32 0x3F800000#32)) (Host.dynamicSlice S1x128 (v101 V) (startOf V) sliceFits_S32x128_S1x128))

/-- What the loop carries before trip `n`. -/
structure State (M0 : Mat) (n : ℕ) (V : Valuation τ sig (Elt Ideal)) : Prop where
  ctr : ctrOf V = (fun _ => BitVec.ofNat 32 n : IVec S_ 32)
  row : ∀ (d : Fin 32) (k : Fin 128), rowsOf V (ix2 d k) = BitVec.ofNat 32 d.val
  zero : ∀ (d : Fin 32) (k : Fin 128), (zerosOf V (ix2 d k) : EReal) = 0
  one : ∀ (d : Fin 32) (k : Fin 128), (onesOf V (ix2 d k) : EReal) = 1
  left : ∀ (d e : Fin 32) (k : Fin 128), n ≤ d.val → n ≤ e.val → (leftOf V (ix3 d e k) : EReal) = rest M0 n d.val e.val k
  fact : ∀ (d i : Fin 32) (k : Fin 128), i.val < n → i.val ≤ d.val → (factOf V (ix3 d i k) : EReal) = chol M0 d.val i.val k
  inver : ∀ (i e : Fin 32) (k : Fin 128), i.val < n → (invOf V (ix3 i e k) : EReal) = inv M0 e.val k i.val
  empty : ∀ (i e : Fin 32) (k : Fin 128), n ≤ i.val → (invOf V (ix3 i e k) : EReal) = 0

section Trip
variable {M0 : Mat} {n : ℕ} {V : Valuation τ sig (Elt Ideal)} (S : State M0 n V) (hn : n < 32)
include S hn

theorem v84_val (d : Fin 32) (k : Fin 128) :
    v84 V (ix2 d k) = leftOf V (ix3 d ⟨n, hn⟩ k) := by
  unfold v84 res_main_while0b_v84
  exact (cast_unmid (n := 32) _ _ d k).trans (col_slice n hn _ _ _ rfl (wrap n _ S.ctr hn _) rfl d k)

/-- The column of the factor, zero above its pivot. -/
theorem v92_val (d : Fin 32) (k : Fin 128) :
    (v92 V (ix2 d k) : EReal) = if n ≤ d.val then chol M0 d.val n k else 0 := by
  unfold v92 res_main_while0b_v92
  have hb : pivots V (ix2 d k)
      = Ideal.rsqrt (rest M0 n n n k) := by
    refine (repeated _ _ d k).trans ?_
    show Ideal.rsqrt _ = _
    refine congrArg _ ?_
    refine (vec_slice n hn _ _ _ (wrap n _ S.ctr hn _) rfl k).trans ?_
    exact (v84_val S hn _ k).trans (S.left _ _ k (Nat.le_refl _) (Nat.le_refl _))
  show Scalar.select (IntOp.cmpi .sge (rowsOf V (ix2 d k)) (broadcastInDim S32x128 ![] bcast_S_S32x128 (id (ctrOf V)) (ix2 d k)))
    ((v84 V (ix2 d k) : EReal) * pivots V (ix2 d k)) (zerosOf V (ix2 d k)) = _
  rw [hb, S.row, v84_val S hn, S.zero, S.ctr]
  refine (from_val n (BitVec.ofNat 32 n) (by rw [BitVec.toNat_ofNat]; omega) hn d _ _).trans ?_
  by_cases h : n ≤ d.val
  · rw [if_pos h, if_pos h, S.left _ _ k h (Nat.le_refl _)]; rfl
  · rw [if_neg h, if_neg h]

theorem v100_val (d i : Fin 32) (k : Fin 128) :
    (v100 V (ix3 d i k) : EReal)
      = if i.val = n then v92 V (ix2 d k) else factOf V (ix3 d i k) := by
  unfold v100 res_main_while0b_v100
  refine (col_update n _ _ _ _ rfl (wrap n _ S.ctr hn _) rfl hn d i k).trans ?_
  rw [as_col]

/-- The factor's columns so far. -/
theorem fact_next (d i : Fin 32) (k : Fin 128) (hi : i.val < n + 1) (hd : i.val ≤ d.val) :
    (v100 V (ix3 d i k) : EReal) = chol M0 d.val i.val k := by
  rw [v100_val S hn]
  by_cases h : i.val = n
  · rw [if_pos h, v92_val S hn, if_pos (by omega), h]
  · rw [if_neg h]; exact S.fact d i k (by omega) hd

theorem v101_val (i : Fin 32) (k : Fin 128) :
    v101 V (ix2 i k) = v100 V (ix3 ⟨n, hn⟩ i k) := by
  unfold v101 res_main_while0b_v101
  exact (cast_unlead (n := 32) _ _ i k).trans (row_slice n hn _ _ _ (wrap n _ S.ctr hn _) rfl rfl i k)

/-- The matrix that is left. -/
theorem left_next (d e : Fin 32) (k : Fin 128) (hd : n + 1 ≤ d.val) (he : n + 1 ≤ e.val) :
    (leftNext V (ix3 d e k) : EReal) = rest M0 (n + 1) d.val e.val k := by
  unfold leftNext step_main_v60_5
  show (leftOf V (ix3 d e k) : EReal)
    - broadcastInDim S32x32x128 ![0, 1, 2] bcast_S32x1x128_S32x32x128_0_1_2 (broadcastInDim S32x1x128 ![0, 2] bcast_S32x128_S32x1x128_0_2 (v92 V)) (ix3 d e k)
      * broadcastInDim S32x32x128 ![0, 1, 2] bcast_S1x32x128_S32x32x128_0_1_2 (broadcastInDim S1x32x128 ![1, 2] bcast_S32x128_S1x32x128_1_2 (v92 V)) (ix3 d e k) = _
  rw [along_rows, along_cols, v92_val S hn, v92_val S hn, if_pos (by omega), if_pos (by omega), S.left d e k (by omega) (by omega)]
  rfl

/-- The sum over the rows so far. -/
theorem sum_rows (e : Fin 32) (k : Fin 128) :
    ∑ i : Fin 32, (v101 V (ix2 i k) : EReal) * invOf V (ix3 i e k)
      = ∑ i : Fin n, chol M0 n i.val k * inv M0 e.val k i.val := by
  have h1 : ∀ i : Fin 32, (v101 V (ix2 i k) : EReal) * invOf V (ix3 i e k)
      = if i.val < n then chol M0 n i.val k * inv M0 e.val k i.val else 0 := fun i => by
    by_cases h : i.val < n
    · rw [if_pos h, v101_val S hn, fact_next S hn _ _ k (by omega) (show i.val ≤ n by omega), S.inver i e k h]
    · rw [if_neg h, S.empty i e k (by omega), mul_zero]
  rw [Finset.sum_congr rfl fun i _ => h1 i, Fin.sum_univ_eq_sum_range (fun i => if i < n then chol M0 n i k * inv M0 e.val k i else 0) 32,
    Fin.sum_univ_eq_sum_range (fun i => chol M0 n i k * inv M0 e.val k i) n]
  rw [← Finset.sum_subset (Finset.range_subset_range.mpr (show n ≤ 32 by omega)) (fun i _ hi => if_neg (by rwa [Finset.mem_range] at hi))]
  exact Finset.sum_congr rfl fun i hi => if_pos (Finset.mem_range.mp hi)

/-- The inverse's rows after the trip. -/
theorem inv_next (i e : Fin 32) (k : Fin 128) :
    (invNext V (ix3 i e k) : EReal)
      = if i.val = n then inv M0 e.val k n else invOf V (ix3 i e k) := by
  unfold invNext step_main_v60_7
  refine (row_update n _ _ _ _ (wrap n _ S.ctr hn _) rfl rfl hn i e k).trans ?_
  rw [as_row]
  congr 1
  have hb : ∀ i : Fin 32, broadcastInDim S32x32x128 ![0, 1, 2] bcast_S32x1x128_S32x32x128_0_1_2 (broadcastInDim S32x1x128 ![0, 2] bcast_S32x128_S32x1x128_0_2 (v101 V)) (ix3 i e k)
      = v101 V (ix2 i k) := fun i => along_rows _ _ _ i e k
  have hr : recips V (ix2 e k)
      = recip M0 n k := by
    refine (repeated _ _ e k).trans ?_
    have hv : Host.dynamicSlice S1x128 (v101 V) (startOf V) sliceFits_S32x128_S1x128 (ix2 0 k) = chol M0 n n k :=
      (vec_slice n hn _ _ _ (wrap n _ S.ctr hn _) rfl k).trans ((v101_val S hn _ k).trans (fact_next S hn _ _ k (Nat.lt_succ_self n) (Nat.le_refl _)))
    generalize Host.dynamicSlice S1x128 _ _ _ = A at hv ⊢
    pointwise
    rw [hv]
    rfl
  have hs := sum_rows S hn e k
  generalize broadcastInDim S32x32x128 ![0, 1, 2] bcast_S32x1x128_S32x32x128_0_1_2 (broadcastInDim S32x1x128 ![0, 2] bcast_S32x128_S32x1x128_0_2 (v101 V)) = A at hb ⊢
  have hu : Scalar.select (IntOp.cmpi .eq (rowsOf V (ix2 e k)) (broadcastInDim S32x128 ![] bcast_S_S32x128 (id (ctrOf V)) (ix2 e k)))
      (onesOf V (ix2 e k) : EReal) (zerosOf V (ix2 e k)) = if e.val = n then 1 else 0 := by
    rw [S.row, S.one, S.zero, S.ctr]
    exact unit_val n (BitVec.ofNat 32 n) (by rw [BitVec.toNat_ofNat]; omega) hn e 1
  show (Scalar.select (IntOp.cmpi .eq (rowsOf V (ix2 e k)) (broadcastInDim S32x128 ![] bcast_S_S32x128 (id (ctrOf V)) (ix2 e k)))
      (onesOf V (ix2 e k) : EReal) (zerosOf V (ix2 e k))
      - Host.reduceAdd (mulf A (invOf V)) (constant (F := Ideal) S_ .f32 0x00000000#32) reducesTo_S32x32x128_S32x128_d0 h_S_ (ix2 e k)) * recips V (ix2 e k) = _
  rw [hu, hr, inv_eq, ← hs]
  congr 2
  generalize invOf V = W
  simp only [← hb]
  pointwise

/-- The trip. -/
theorem trip : State M0 (n + 1) (STEP V) where
  ctr := by
    rw [show ctrOf (STEP V) = step_main_v60_4 V from STEP_main_v60_4 V]
    show id (addi (ctrOf V) (constantI S_ 32 1#32)) = _
    rw [S.ctr]
    funext j
    show BitVec.ofNat 32 n + 1#32 = BitVec.ofNat 32 (n + 1)
    rw [BitVec.ofNat_add]
  row := by rw [show rowsOf (STEP V) = rowsOf V from STEP_main_v60_0 V]; exact S.row
  zero := by rw [show zerosOf (STEP V) = zerosOf V from STEP_main_v60_1 V]; exact S.zero
  one := by rw [show onesOf (STEP V) = onesOf V from STEP_main_v60_2 V]; exact S.one
  left := by rw [show leftOf (STEP V) = leftNext V from STEP_main_v60_5 V]; exact fun d e k hd he => left_next S hn d e k hd he
  fact := by rw [show factOf (STEP V) = v100 V from STEP_main_v60_6 V]; exact fun d i k hi hd => fact_next S hn d i k hi hd
  inver := by
    rw [show invOf (STEP V) = invNext V from STEP_main_v60_7 V]
    intro i e k hi
    rw [inv_next S hn]
    by_cases h : i.val = n
    · rw [if_pos h, h]
    · rw [if_neg h]; exact S.inver i e k (by omega)
  empty := by
    rw [show invOf (STEP V) = invNext V from STEP_main_v60_7 V]
    intro i e k hi
    rw [inv_next S hn, if_neg (by omega)]
    exact S.empty i e k (by omega)

end Trip

/-- All trips. -/
theorem trips (M0 : Mat) (V : Valuation τ sig (Elt Ideal)) (S : State M0 0 V) : ∀ n, n ≤ 32 → State M0 n (STEP^[n] V)
  | 0, _ => S
  | n + 1, h => by
    rw [Function.iterate_succ_apply']
    exact trip (trips M0 V S n (by omega)) (by omega)

end Cert.FactorLoop

end
-- ==== Proof.FactorFact.lean ====
/- The factor call's two buffers at the end of its body, from what the first holds when its 32 rows are filled: the Cholesky
   factor, and its inverse. -/
module

public import proofs.«01_k».proof.Proof.Gen.FactorIdeal.Frame
public import proofs.«01_k».proof.Proof.FactorStep

@[expose] public section

set_option maxRecDepth 16384
set_option maxHeartbeats 4000000

noncomputable section

namespace Cert.FactorValue

open Cert.FactorIdeal Cert.FactorIdeal.Gen Cert.FactorIdeal.Gen.kernelRun0_A.sl Idealize.ShloMosaic Idealize.ShloMosaic.TcCoe Idealize.ShloMosaic.Tactic

variable (c : Dev nD) (arg0 : Memref sig .tc .vmem S2x32x128 .f32) (harg0 : arg0.IsWhole) (arg1 : Memref sig .tc .vmem S2x32x32x128 .f32) (harg1 : arg1.IsWhole)
  (arg2 : Memref sig .tc .vmem S32x128 .f32) (harg2 : arg2.IsWhole) (arg3 : Memref sig .tc .vmem S32x32x128 .f32) (harg3 : arg3.IsWhole)
  (arg4 : Memref sig .tc .smem S1 .f32) (harg4 : arg4.IsWhole)
  (arg8 : Memref sig .tc .vmem S32x32x128 .f32) (arg9 : Memref sig .tc .vmem S32x32x128 .f32)
  (x0 : Vec Ideal S2x32x128 .f32) (x1 : Vec Ideal S2x32x32x128 .f32) (x2 : Vec Ideal S32x128 .f32) (x3 : Vec Ideal S32x32x128 .f32) (x4 : Vec Ideal S1 .f32)

/-- The first 31 columns of the factor, each with the block right of it. -/
theorem eliminated (M : Mat) (h : Rows M 32 (held arg8.view (HS0_32 c arg0 harg0 arg1 harg1 arg2 harg2 arg3 harg3 arg4 harg4 x0 x1 x2 x3 x4))) :
    Done M 31 (held arg8.view (HS0_94 c arg0 harg0 arg1 harg1 arg2 harg2 arg3 harg3 arg4 harg4 arg8 x0 x1 x2 x3 x4)) := by
  apply done_step M arg8.view _ 30 31 2 1 rfl rfl rfl _ _ ?_ _ _ _ _ _ _ ?h1 ?hx ?h2
  case h2 => exact fun d e k => updl_val _ _ _ _ _ _ _ d e k
  case hx => exact fun d k => vec_val _ _ _ _ _ _ d k
  case h1 => exact fun d k => col_val _ _ _ _ _ _ _ d k
  iterate 30
    apply done_step M arg8.view _ _ _ _ _ (by rfl) (by rfl) (by rfl) _ _ ?_ _ _ _ _ _ _ ?h1 ?hx ?h2
    case' h2 => intro d e k
    case' h1 => intro d k
    case' h1 | h2 => dsimp only [r_49, r_50, r_51, r_52, r_53, r_54, r_55, r_56, r_57, r_58, r_59, r_60, r_61, r_62, r_63, r_64, r_65, r_66, r_67, k0_pay97, k0_pay98, k0_pay99, k0_pay100, k0_pay101,
          k0_pay102, k0_pay103, k0_pay104, k0_pay105, k0_pay106, k0_pay107, k0_pay108, k0_pay109, k0_pay110, k0_pay111, k0_pay112, k0_pay113, k0_pay114, k0_pay115,
          k0_pay116, k0_pay117, k0_pay118, k0_pay119, k0_pay120, k0_pay121, k0_pay122, k0_pay123, k0_pay124, k0_pay125, k0_pay126, k0_pay127, k0_pay128, k0_pay129,
          k0_pay130, k0_pay131, k0_pay132, k0_pay133, k0_pay134, k0_pay135, k0_pay136, k0_pay137, k0_pay138, k0_pay139, k0_pay140, k0_pay141, k0_pay142, k0_pay143,
          k0_pay144, k0_pay145, k0_pay146, k0_pay147, k0_pay148, k0_pay149, k0_pay150, k0_pay151, k0_pay152, k0_pay153, k0_pay154, k0_pay155, k0_pay156, k0_pay157,
          k0_pay158, k0_pay159, k0_pay160, k0_pay161, k0_pay162, k0_pay163, k0_pay164, k0_pay165, k0_pay166, k0_pay167, k0_pay168, k0_pay169, k0_pay170, k0_pay171,
          k0_pay172, k0_pay173, k0_pay174, k0_pay175, k0_pay176, k0_pay177, k0_pay178, k0_pay179, k0_pay180, k0_pay181, k0_pay182, k0_pay183, k0_pay184, k0_pay185,
          k0_pay186, k0_pay187, k0_pay188, k0_pay189, k0_pay190, k0_pay191, k0_pay192, k0_pay193, k0_pay194, k0_pay195, k0_pay196, k0_pay197, k0_pay198, k0_pay199,
          k0_pay200, k0_pay201, k0_pay202, k0_pay203, k0_pay204, k0_pay205, k0_pay206]
    case h2 => exact upd_val _ _ _ _ _ _ _ _ _ _ d e k
    case hx => exact fun d k => vec_val _ _ _ _ _ _ d k
    case h1 => exact col_val _ _ _ _ _ _ _ d k
  exact done_zero M _ h

/-- The 32 columns of the factor. -/
theorem factored (M : Mat) (h : Rows M 32 (held arg8.view (HS0_32 c arg0 harg0 arg1 harg1 arg2 harg2 arg3 harg3 arg4 harg4 x0 x1 x2 x3 x4))) (d i : Fin 32) (k : Fin 128) (hd : i.val ≤ d.val) :
    (held arg8.view (HS0_95 c arg0 harg0 arg1 harg1 arg2 harg2 arg3 harg3 arg4 harg4 arg8 x0 x1 x2 x3 x4) (ix3 d i k) : EReal) = chol M d.val i.val k := by
  have e := eliminated c arg0 harg0 arg1 harg1 arg2 harg2 arg3 harg3 arg4 harg4 arg8 x0 x1 x2 x3 x4 M h
  exact (done_col M arg8.view _ 31 1 rfl _ _ e fun d k => (last_val _ _ _ _ _ d k).trans (colval M _ _ 31 1 rfl _ _ e d k)).2 d i k i.isLt hd

end Cert.FactorValue

end
-- ==== Proof.FactorInv.lean ====
/- Row after row of W, and of W's product with the new mean, in the factor call's body. -/
module

public import proofs.«01_k».proof.Proof.FactorStep

@[expose] public section

noncomputable section

namespace Cert.FactorValue

open Cert.FactorIdeal Cert.FactorIdeal.Gen Idealize.ShloMosaic Idealize.ShloMosaic.TcCoe Idealize.ShloMosaic.Tactic

/-- What a buffer of 32 vectors holds after the stores of a list. -/
abbrev held2 (v : View sig .tc .vmem S32x128 .f32) (L : List (View.Piece (Elt Ideal) S32x128 .f32)) : Vec Ideal S32x128 .f32 :=
  v.read (Elt Ideal) (v.writes (Elt Ideal) v.junk L)

/-- The product of row `j` of the factor's inverse with a vector. -/
def times (M : Mat) (nmu : FVec Ideal S32x128 .f32) (j : ℕ) (k : Fin 128) : EReal := ∑ e : Fin 32, inv M e.val k j * (nmu (ix2 e k) : EReal)

/-- The first `n` products. -/
def Vecs (M : Mat) (nmu : FVec Ideal S32x128 .f32) (n : ℕ) (X : Vec Ideal S32x128 .f32) : Prop :=
  ∀ (j : Fin 32) (k : Fin 128), j.val < n → (X (ix2 j k) : EReal) = times M nmu j.val k

theorem vecs_cons (M : Mat) (nmu : FVec Ideal S32x128 .f32) (v : View sig .tc .vmem S32x128 .f32) (L : List (View.Piece (Elt Ideal) S32x128 .f32)) (n : ℕ) (inb)
    (w : (Rect.unit (s := S32x128) ![n, 0] ![1, 128] inb).shape.Idx → Elt Ideal .f32) (hL : Vecs M nmu n (held2 v L))
    (hw : ∀ k : Fin 128, (w (ix2 0 k) : EReal) = times M nmu n k) :
    Vecs M nmu (n + 1) (held2 v (⟨Rect.unit (s := S32x128) ![n, 0] ![1, 128] inb, w⟩ :: L)) := by
  intro j k hj
  by_cases h : j.val = n
  · rw [h, ← hw]
    exact View.read_writes_cons_unit_of_mem v v.junk inb w L (ix2 j k) (ix2 0 k) rfl (fun x => by
      match x with
      | ⟨0, _⟩ => exact h
      | ⟨1, _⟩ => exact (Nat.zero_add _).symm)
  · refine (View.read_writes_cons_unit_of_not_mem v v.junk inb w L (ix2 j k) rfl (0 : Fin 2) ?_).trans (hL j k (by omega))
    show j.val < n ∨ n + 1 ≤ j.val
    omega

/-- The inverse, row `j`, column `e`, as a matrix. -/
def invRow (M : Mat) : Mat := fun j e k => inv M e k j

/-- Row `n` of the inverse, from what is read of the factor and of the rows before. -/
theorem inv_row (M : Mat) (v8 : View sig .tc .vmem S32x32x128 .f32) (L8 : List (View.Piece (Elt Ideal) S32x32x128 .f32))
    (hF : ∀ (d i : Fin 32) (k : Fin 128), i.val ≤ d.val → (held v8 L8 (ix3 d i k) : EReal) = chol M d.val i.val k)
    (v9 : View sig .tc .vmem S32x32x128 .f32) (L9 : List (View.Piece (Elt Ideal) S32x32x128 .f32)) (n : ℕ) (hn : n < 32) (h : Rows (invRow M) n (held v9 L9)) (i1) (i2) (i3) (e : Fin 32) (k : Fin 128) :
    ((if e.val = n then (1 : EReal) else 0) - ∑ i : Fin n, (v8.readCov L8 (Rect.unit (s := S32x32x128) ![n, 0, 0] ![1, n, 128] i1).toLoadRect (ix3 0 i k) : EReal)
        * v9.readCov L9 (Rect.unit (s := S32x32x128) ![0, 0, 0] ![n, 32, 128] i2).toLoadRect (ix3 i e k))
      * FloatOps.divf (F := Ideal) (φ := .f32) (1 : EReal) (v8.readCov L8 (Rect.unit (s := S32x32x128) ![n, n, 0] ![1, 1, 128] i3).toLoadRect (ix3 0 0 k))
      = inv M e.val k n := by
  rw [inv_eq, load_apply v8 L8 n n 1 1 i3 0 0 k ⟨n, hn⟩ ⟨n, hn⟩ rfl rfl, hF _ _ k (Nat.le_refl _)]
  congr 2
  refine Finset.sum_congr rfl fun i _ => ?_
  have hi := i.isLt
  rw [load_apply v8 L8 n 0 1 n i1 0 i k ⟨n, hn⟩ ⟨i.val, by omega⟩ rfl (by simp), hF _ _ k (show i.val ≤ n by omega),
    load_apply v9 L9 0 0 n 32 i2 i e k ⟨i.val, by omega⟩ e (by simp) (by simp), h _ _ k hi]
  rfl

/-- Row 0 of the inverse. -/
theorem inv_row0 (M : Mat) (v8 : View sig .tc .vmem S32x32x128 .f32) (L8 : List (View.Piece (Elt Ideal) S32x32x128 .f32))
    (hF : ∀ (d i : Fin 32) (k : Fin 128), i.val ≤ d.val → (held v8 L8 (ix3 d i k) : EReal) = chol M d.val i.val k) (i3) (e : Fin 32) (k : Fin 128) :
    (if e.val = 0 then (1 : EReal) else 0) * FloatOps.divf (F := Ideal) (φ := .f32) (1 : EReal) (v8.readCov L8 (Rect.unit (s := S32x32x128) ![0, 0, 0] ![1, 1, 128] i3).toLoadRect (ix3 0 0 k))
      = inv M e.val k 0 := by
  rw [inv_eq, load_apply v8 L8 0 0 1 1 i3 0 0 k 0 0 rfl rfl, hF _ _ k (Nat.le_refl _), Finset.univ_eq_empty, Finset.sum_empty, sub_zero]
  rfl

/-- A row's product with the new mean, as it is stored. -/
theorem times_val (x y : FVec Ideal S32x128 .f32) (h1 h2 h3 h4) (k : Fin 128) :
    (shapeCast S1x128 (multiReduction (F := Ideal) (φ := .f32) .add [0] S128 (mulf x y) 0x00000000#32 h1 h2 h3) h4 (ix2 0 k) : EReal)
      = ∑ e : Fin 32, (x (ix2 e k) : EReal) * y (ix2 e k) := by
  refine (shapeCast_apply _ h4 (ix2 0 k) (ix1 k) ?_).trans ?_
  · rw [Shape.rowMajor_val_two, Shape.rowMajor_val_one]
    show k.val = 0 * 128 + k.val
    omega
  · pointwise

/-- A column of W, as it is stored in a row of the transposed W. -/
theorem wt_val (x : FVec Ideal S32x1x128 .f32) (h1 h2) (j : Fin 32) (k : Fin 128) :
    shapeCast S1x32x128 (shapeCast S32x128 x h1) h2 (ix3 0 j k) = x (ix3 j 0 k) :=
  (cast_lead (n := 32) _ h2 j 0 k).trans (cast_unmid (n := 32) x h1 j k)

/-- A column of W, as it is read back. -/
theorem wt_row (M : Mat) (v : View sig .tc .vmem S32x32x128 .f32) (L : List (View.Piece (Elt Ideal) S32x32x128 .f32)) (hR : Rows (invRow M) 32 (held v L)) (e : ℕ) (he : e < 32) (i)
    (j : Fin 32) (k : Fin 128) : (v.readCov L (Rect.unit (s := S32x32x128) ![0, e, 0] ![32, 1, 128] i).toLoadRect (ix3 j 0 k) : EReal) = inv M e k j.val := by
  rw [load_apply v L 0 e 32 1 i j 0 k j ⟨e, he⟩ (by simp) rfl, hR _ _ k j.isLt]
  rfl

/-- One more row of W in the one buffer, its product with the new mean in the other. -/
theorem both_cons (M : Mat) (nmu : FVec Ideal S32x128 .f32) (v9 : View sig .tc .vmem S32x32x128 .f32) (L9 : List (View.Piece (Elt Ideal) S32x32x128 .f32))
    (v7 : View sig .tc .vmem S32x128 .f32) (L7 : List (View.Piece (Elt Ideal) S32x128 .f32)) (n : ℕ) (inb9) (inb7)
    (w9 : (Rect.unit (s := S32x32x128) ![n, 0, 0] ![1, 32, 128] inb9).shape.Idx → Elt Ideal .f32)
    (w7 : (Rect.unit (s := S32x128) ![n, 0] ![1, 128] inb7).shape.Idx → Elt Ideal .f32) (x : FVec Ideal S32x128 .f32)
    (hL : Rows (invRow M) n (held v9 L9) ∧ Vecs M nmu n (held2 v7 L7))
    (h9 : ∀ (e : Fin 32) (k : Fin 128), w9 (ix3 0 e k) = x (ix2 e k))
    (h7 : ∀ k : Fin 128, (w7 (ix2 0 k) : EReal) = ∑ e : Fin 32, (x (ix2 e k) : EReal) * nmu (ix2 e k))
    (hx : Rows (invRow M) n (held v9 L9) → ∀ (e : Fin 32) (k : Fin 128), (x (ix2 e k) : EReal) = inv M e.val k n) :
    Rows (invRow M) (n + 1) (held v9 (⟨Rect.unit (s := S32x32x128) ![n, 0, 0] ![1, 32, 128] inb9, w9⟩ :: L9))
      ∧ Vecs M nmu (n + 1) (held2 v7 (⟨Rect.unit (s := S32x128) ![n, 0] ![1, 128] inb7, w7⟩ :: L7)) := by
  refine ⟨rows_cons _ v9 L9 n inb9 w9 hL.1 fun hR e k => (h9 e k).trans (hx hR e k), vecs_cons M nmu v7 L7 n inb7 w7 hL.2 fun k => (h7 k).trans ?_⟩
  exact Finset.sum_congr rfl fun e _ => by rw [hx hL.1]

end Cert.FactorValue

end
-- ==== Proof.FactorBody.lean ====
/- What the factor call's body leaves in its three results. -/
module

public import proofs.«01_k».proof.Proof.FactorFact
public import proofs.«01_k».proof.Proof.FactorFill
public import proofs.«01_k».proof.Proof.FactorInv

@[expose] public section

set_option maxRecDepth 16384
set_option maxHeartbeats 4000000

noncomputable section

namespace Cert.FactorValue

open Cert.FactorIdeal Cert.FactorIdeal.Gen Cert.FactorIdeal.Gen.kernelRun0_A.sl Idealize.ShloMosaic Idealize.ShloMosaic.TcCoe Idealize.ShloMosaic.Tactic

variable (c : Dev nD) (arg0 : Memref sig .tc .vmem S2x32x128 .f32) (harg0 : arg0.IsWhole) (arg1 : Memref sig .tc .vmem S2x32x32x128 .f32) (harg1 : arg1.IsWhole)
  (arg2 : Memref sig .tc .vmem S32x128 .f32) (harg2 : arg2.IsWhole) (arg3 : Memref sig .tc .vmem S32x32x128 .f32) (harg3 : arg3.IsWhole)
  (arg4 : Memref sig .tc .smem S1 .f32) (harg4 : arg4.IsWhole)
  (arg8 : Memref sig .tc .vmem S32x32x128 .f32) (arg9 : Memref sig .tc .vmem S32x32x128 .f32)
  (x0 : Vec Ideal S2x32x128 .f32) (x1 : Vec Ideal S2x32x32x128 .f32) (x2 : Vec Ideal S32x128 .f32) (x3 : Vec Ideal S32x32x128 .f32) (x4 : Vec Ideal S1 .f32)

/-- The matrix that is factored: the covariance of the values the body makes first. -/
abbrev cov0 : Mat := cov (r_1 c arg4 harg4 x4) (r_2 c arg4 harg4 x4) (r_3 c arg4 harg4 x4) (r_4 c arg1 harg1 x1) (r_5 c arg0 harg0 x0) (r_6 c arg0 harg0 arg2 harg2 x0 x2) (r_8 c arg3 harg3 x3)

/-- The 32 rows of the covariance. -/
theorem filled : Rows (cov0 c arg0 harg0 arg1 harg1 arg2 harg2 arg3 harg3 arg4 harg4 x0 x1 x2 x3 x4) 32 (held arg8.view (HS0_32 c arg0 harg0 arg1 harg1 arg2 harg2 arg3 harg3 arg4 harg4 x0 x1 x2 x3 x4)) := by
  iterate 32
    apply rows_cons _ _ _ _ _ _ ?_ ?hw
    case hw =>
      intro _ e k
      dsimp only [v31, r_9, r_10, r_11, r_12, r_13, r_14, r_15, r_16, r_17, r_18, r_19, r_20, r_21, r_22, r_23, r_24, r_25, r_26, r_27, r_28, r_29, r_30, r_31, r_32, r_33, r_34, r_35,
        r_36, r_37, r_38, r_39, r_40, r_41, r_42, r_43, r_44, r_45, r_46, r_47, r_48, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43, k0_pay44, k0_pay45, k0_pay46, k0_pay47, k0_pay48, k0_pay49,
        k0_pay50, k0_pay51, k0_pay52, k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78, k0_pay79, k0_pay80, k0_pay81,
        k0_pay82, k0_pay83, k0_pay84, k0_pay85, k0_pay86, k0_pay87, k0_pay88, k0_pay89, k0_pay90, k0_pay91, k0_pay92, k0_pay93, k0_pay94, k0_pay95, k0_pay96]
      exact fill_val _ (by decide) _ _ (by rfl) (by rfl) _ _ _ _ _ _ _ _ _ _ _ _ _ _ _ _ _ _ _ _ _ _ _ e k
  exact rows_nil _ _

/-- The 32 rows of W, and their products with the new mean. -/
theorem inverted (arg5 : Memref sig .tc .vmem S32x32x128 .f32) (harg5 : arg5.IsWhole) (arg6 : Memref sig .tc .vmem S32x128 .f32) (harg6 : arg6.IsWhole)
    (arg7 : Memref sig .tc .vmem S32x128 .f32) (harg7 : arg7.IsWhole) (harg8 : arg8.IsWhole) (harg9 : arg9.IsWhole) (v7 : View sig .tc .vmem S32x128 .f32) :
    Rows (invRow (cov0 c arg0 harg0 arg1 harg1 arg2 harg2 arg3 harg3 arg4 harg4 x0 x1 x2 x3 x4)) 32 (held arg9.view (HS1_32 c arg0 harg0 arg1 harg1 arg2 harg2 arg3 harg3 arg4 harg4 arg8 arg9 x0 x1 x2 x3 x4))
      ∧ Vecs (cov0 c arg0 harg0 arg1 harg1 arg2 harg2 arg3 harg3 arg4 harg4 x0 x1 x2 x3 x4) (r_7 c arg0 harg0 arg2 harg2 arg4 harg4 x0 x2 x4) 32
        (held2 v7 (kernelRun0_A c arg0 harg0 arg1 harg1 arg2 harg2 arg3 harg3 arg4 harg4 arg5 harg5 arg6 harg6 arg7 harg7 arg8 harg8 arg9 harg9 x0 x1 x2 x3 x4).2.2.1) := by
  have hF := factored c arg0 harg0 arg1 harg1 arg2 harg2 arg3 harg3 arg4 harg4 arg8 x0 x1 x2 x3 x4 _ (filled c arg0 harg0 arg1 harg1 arg2 harg2 arg3 harg3 arg4 harg4 arg8 x0 x1 x2 x3 x4)
  iterate 31
    apply both_cons _ _ _ _ _ _ _ _ _ _ _ _ ?_ ?h9 ?h7 ?hx
    case' h9 => intro e k
    case' h7 => intro k
    case' h9 | h7 => dsimp only [v31, r_68, r_69, r_70, r_71, r_72, r_73, r_74, r_75, r_76, r_77, r_78, r_79, r_80, r_81, r_82, r_83, r_84, r_85, r_86, r_87, r_88, r_89, r_90, r_91, r_92, r_93,
        k0_pay207, k0_pay208, k0_pay209, k0_pay210, k0_pay211, k0_pay212, k0_pay213, k0_pay214, k0_pay215, k0_pay216, k0_pay217, k0_pay218, k0_pay219, k0_pay220,
        k0_pay221, k0_pay222, k0_pay223, k0_pay224, k0_pay225, k0_pay226, k0_pay227, k0_pay228, k0_pay229, k0_pay230, k0_pay231, k0_pay232, k0_pay233, k0_pay234,
        k0_pay235, k0_pay236, k0_pay237, k0_pay238, k0_pay239, k0_pay240, k0_pay241, k0_pay242, k0_pay243, k0_pay244, k0_pay245, k0_pay246, k0_pay247, k0_pay248,
        k0_pay249, k0_pay250, k0_pay251, k0_pay252, k0_pay253, k0_pay254, k0_pay255, k0_pay256, k0_pay257, k0_pay258, k0_pay259, k0_pay260, k0_pay261, k0_pay262,
        k0_pay263, k0_pay264, k0_pay265, k0_pay266, k0_pay267, k0_pay268, k0_pay269, k0_pay270, k0_pay271, k0_pay272, k0_pay273, k0_pay274, k0_pay275, k0_pay276,
        k0_pay277, k0_pay278, k0_pay279, k0_pay280, k0_pay281, k0_pay282, k0_pay283, k0_pay284, k0_pay285, k0_pay286, k0_pay287, k0_pay288, k0_pay289, k0_pay290,
        k0_pay291, k0_pay292, k0_pay293, k0_pay294, k0_pay295, k0_pay296, k0_pay297, k0_pay298, k0_pay299, k0_pay300, k0_pay301, k0_pay302, k0_pay303, k0_pay304,
        k0_pay305, k0_pay306, k0_pay307, k0_pay308, k0_pay309, k0_pay310, k0_pay311, k0_pay312, k0_pay313, k0_pay314, k0_pay315, k0_pay316, k0_pay317, k0_pay318,
        k0_pay319, k0_pay320, k0_pay321, k0_pay322, k0_pay323, k0_pay324, k0_pay325, k0_pay326, k0_pay327, k0_pay328, k0_pay329, k0_pay330, k0_pay331, k0_pay332,
        k0_pay333, k0_pay334, k0_pay335]
    case h9 => exact cast_lead (n := 32) _ _ e 0 k
    case h7 => exact times_val _ _ _ _ _ _ k
    case hx => exact fun hR e k => (wvec_val _ _ (by rfl) (by decide) _ _ _ _ _ _ _ _ _ _ _ _ e k).trans (inv_row _ _ _ hF _ _ _ (by decide) hR _ _ _ e k)
  apply both_cons _ _ _ _ _ _ _ _ _ _ _ _ ?_ ?h9 ?h7 ?hx
  case' h9 => intro e k
  case' h7 => intro k
  case' h9 | h7 => dsimp only [v31, k0_pay207, k0_pay208, k0_pay209]
  case h9 => exact cast_lead (n := 32) _ _ e 0 k
  case h7 => exact times_val _ _ _ _ _ _ k
  case hx => exact fun _ e k => (wvec_val0 _ (by rfl) _ _ _ _ e k).trans (inv_row0 _ _ _ hF _ e k)
  exact ⟨rows_nil _ _, fun _ _ h => absurd h (Nat.not_lt_zero _)⟩

/-- The columns of W, as they are written out. -/
theorem written (arg5 : Memref sig .tc .vmem S32x32x128 .f32) (harg5 : arg5.IsWhole) (arg6 : Memref sig .tc .vmem S32x128 .f32) (harg6 : arg6.IsWhole)
    (arg7 : Memref sig .tc .vmem S32x128 .f32) (harg7 : arg7.IsWhole) (harg8 : arg8.IsWhole) (harg9 : arg9.IsWhole) (v5 : View sig .tc .vmem S32x32x128 .f32) :
    Rows (fun e j k => inv (cov0 c arg0 harg0 arg1 harg1 arg2 harg2 arg3 harg3 arg4 harg4 x0 x1 x2 x3 x4) e k j) 32
      (held v5 (kernelRun0_A c arg0 harg0 arg1 harg1 arg2 harg2 arg3 harg3 arg4 harg4 arg5 harg5 arg6 harg6 arg7 harg7 arg8 harg8 arg9 harg9 x0 x1 x2 x3 x4).1) := by
  have hR := (inverted c arg0 harg0 arg1 harg1 arg2 harg2 arg3 harg3 arg4 harg4 arg8 arg9 x0 x1 x2 x3 x4 arg5 harg5 arg6 harg6 arg7 harg7 harg8 harg9 arg7.view).1
  iterate 32
    apply rows_cons _ _ _ _ _ _ ?_ ?hw
    case hw =>
      intro _ j k
      try dsimp only [r_94, k0_pay336, k0_pay337, k0_pay338, k0_pay364, k0_pay365, v2714, v2717, v2719, v2722, v2724, v2727, v2729, v2732, v2734, v2737, v2739, v2742, v2744, v2747, v2749, v2752, v2754, v2757,
        v2759, v2762, v2764, v2767, v2769, v2772, v2774, v2777, v2779, v2782, v2784, v2787, v2789, v2792, v2794, v2797, v2799, v2802, v2804, v2807, v2809, v2812, v2814,
        v2817, v2819, v2822, v2824, v2827, v2829, v2832, v2834, v2837, k0_pay366, k0_pay367]
      exact (wt_val _ _ _ j k).trans (wt_row _ _ _ hR _ (by decide) _ j k)
  exact rows_nil _ _

end Cert.FactorValue

end
-- ==== Proof.FactorSum.lean ====
/- The factor call's three results as functions of its five arguments, and the values the kernel's body makes first. -/
module

public import proofs.«01_k».proof.Proof.FactorBody
public import Idealize.ShloMosaic.Lib.WholeRead

@[expose] public section

set_option maxRecDepth 16384

noncomputable section

namespace Cert.FactorValue

open Cert.FactorIdeal Cert.FactorIdeal.Gen Idealize.ShloMosaic Idealize.ShloMosaic.TcCoe Idealize.ShloMosaic.Tactic

/-- The batch's length. -/
abbrev bn : EReal := FloatOps.ofBits (F := Ideal) .f32 0x46800000#32

/-- One over the batch's length. -/
abbrev bnInv : EReal := FloatOps.ofBits (F := Ideal) .f32 0x38800000#32

/-- A quotient as the programs take it. -/
abbrev quot (x y : EReal) : EReal := FloatOps.divf (F := Ideal) (φ := .f32) x y

/-- The batch's mean, of the sums of its two halves. -/
def meanOf (s1 : Vec Ideal S2x32x128 .f32) : FVec Ideal S32x128 .f32 := fun i => ((s1 (ix3 0 (i 0) (i 1)) : EReal) + s1 (ix3 1 (i 0) (i 1))) * bnInv

/-- The batch's second moments, of the sums of its two halves. -/
def momOf (s2 : Vec Ideal S2x32x32x128 .f32) : FVec Ideal S32x32x128 .f32 := fun i => (s2 (ix4 0 (i 0) (i 1) (i 2)) : EReal) + s2 (ix4 1 (i 0) (i 1) (i 2))

/-- The mean's distance from the old mean. -/
def distOf (s1 : Vec Ideal S2x32x128 .f32) (mu : Vec Ideal S32x128 .f32) : FVec Ideal S32x128 .f32 := fun i => (meanOf s1 i : EReal) - mu i

/-- The new mean. -/
def nmuOf (s1 : Vec Ideal S2x32x128 .f32) (mu : Vec Ideal S32x128 .f32) (n : EReal) : FVec Ideal S32x128 .f32 := fun i =>
  quot (n * (mu i : EReal) + bn * (meanOf s1 i : EReal)) (n + bn)

/-- The new covariance plus the identity. -/
def covOf (s1 : Vec Ideal S2x32x128 .f32) (s2 : Vec Ideal S2x32x32x128 .f32) (mu : Vec Ideal S32x128 .f32) (l0 : Vec Ideal S32x32x128 .f32) (n : EReal) : Mat :=
  cov (quot n (n + bn)) (quot (FloatOps.ofBits (F := Ideal) .f32 0x3F800000#32) (n + bn)) (quot (n * bn) ((n + bn) * (n + bn))) (momOf s2) (meanOf s1) (distOf s1 mu) l0

/-- The factor's inverse, transposed. -/
def wtOf (M : Mat) : Vec Ideal S32x32x128 .f32 := fun i => inv M (i 0).val (i 2) (i 1).val

/-- The inverse's product with the new mean. -/
def wmuOf (M : Mat) (nmu : FVec Ideal S32x128 .f32) : Vec Ideal S32x128 .f32 := fun i => times M nmu (i 0).val (i 1)

section First
open Cert.FactorIdeal.Gen.kernelRun0_A.sl

variable (c : Dev nD) (arg0 : Memref sig .tc .vmem S2x32x128 .f32) (harg0 : arg0.IsWhole) (arg1 : Memref sig .tc .vmem S2x32x32x128 .f32) (harg1 : arg1.IsWhole)
  (arg2 : Memref sig .tc .vmem S32x128 .f32) (harg2 : arg2.IsWhole) (arg3 : Memref sig .tc .vmem S32x32x128 .f32) (harg3 : arg3.IsWhole)
  (arg4 : Memref sig .tc .smem S1 .f32) (harg4 : arg4.IsWhole)
  (x0 : Vec Ideal S2x32x128 .f32) (x1 : Vec Ideal S2x32x32x128 .f32) (x2 : Vec Ideal S32x128 .f32) (x3 : Vec Ideal S32x32x128 .f32) (x4 : Vec Ideal S1 .f32)

theorem count_eq : (r c arg4 harg4 x4 : EReal) = x4 (ix1 0) := by
  unfold r
  refine (harg4.readAt_unread x4 _ _).trans (congrArg x4 ?_)
  funext a; apply Fin.ext
  match a with
  | ⟨0, _⟩ => rfl

/-- A half of the sums. -/
theorem half_eq (h : ℕ) (hh : h < 2) (i) (j : Fin 1) (d : Fin 32) (k : Fin 128) :
    View.readAt (Elt Ideal) arg0.view (Rect.unit (s := S2x32x128) ![h, 0, 0] S1x32x128.size i).toLoadRect (harg0.unread x0) (ix3 j d k) = x0 (ix3 ⟨h, hh⟩ d k) := by
  refine (harg0.readAt_unread x0 _ _).trans (congrArg x0 ?_)
  funext a; apply Fin.ext
  match a with
  | ⟨0, _⟩ => show h + 1 * j.val = h; omega
  | ⟨1, _⟩ => show 0 + 1 * d.val = d.val; omega
  | ⟨2, _⟩ => show 0 + 1 * k.val = k.val; omega

/-- A half of the second moments. -/
theorem half2_eq (h : ℕ) (hh : h < 2) (i) (j : Fin 1) (d e : Fin 32) (k : Fin 128) :
    View.readAt (Elt Ideal) arg1.view (Rect.unit (s := S2x32x32x128) ![h, 0, 0, 0] S1x32x32x128.size i).toLoadRect (harg1.unread x1) (ix4 j d e k) = x1 (ix4 ⟨h, hh⟩ d e k) := by
  refine (harg1.readAt_unread x1 _ _).trans (congrArg x1 ?_)
  funext a; apply Fin.ext
  match a with
  | ⟨0, _⟩ => show h + 1 * j.val = h; omega
  | ⟨1, _⟩ => show 0 + 1 * d.val = d.val; omega
  | ⟨2, _⟩ => show 0 + 1 * e.val = e.val; omega
  | ⟨3, _⟩ => show 0 + 1 * k.val = k.val; omega

theorem old_eq (i) : (View.readAt (Elt Ideal) arg2.view (Rect.unit (s := S32x128) ![0, 0] S32x128.size i).toLoadRect (harg2.unread x2) : Vec Ideal S32x128 .f32) = x2 := by
  funext j
  refine (harg2.readAt_unread x2 _ _).trans (congrArg x2 ?_)
  funext a; apply Fin.ext
  match a with
  | ⟨0, _⟩ => show 0 + 1 * (j 0).val = (j 0).val; omega
  | ⟨1, _⟩ => show 0 + 1 * (j 1).val = (j 1).val; omega

theorem prior_eq (i) : (View.readAt (Elt Ideal) arg3.view (Rect.unit (s := S32x32x128) ![0, 0, 0] S32x32x128.size i).toLoadRect (harg3.unread x3) : Vec Ideal S32x32x128 .f32) = x3 := by
  funext j
  refine (harg3.readAt_unread x3 _ _).trans (congrArg x3 ?_)
  funext a; apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- The leading axis of one element of a half taken out. -/
theorem cast_half {α : Type} (x : S1x32x32x128.Idx → α) (h) (d e : Fin 32) (k : Fin 128) : shapeCast S32x32x128 x h (ix3 d e k) = x (ix4 0 d e k) :=
  shapeCast_apply x h _ _ (by
    rw [Shape.rowMajor_val_four, Shape.rowMajor_val_three]
    show ((0 * 32 + d.val) * 32 + e.val) * 128 + k.val = (d.val * 32 + e.val) * 128 + k.val
    omega)

theorem r1_eq : (r_1 c arg4 harg4 x4 : EReal) = quot (x4 (ix1 0)) ((x4 (ix1 0) : EReal) + bn) := by
  rw [← count_eq c arg4 harg4 x4]; rfl

theorem r2_eq : (r_2 c arg4 harg4 x4 : EReal) = quot (FloatOps.ofBits (F := Ideal) .f32 0x3F800000#32) ((x4 (ix1 0) : EReal) + bn) := by
  rw [← count_eq c arg4 harg4 x4]; rfl

theorem r3_eq : (r_3 c arg4 harg4 x4 : EReal) = quot ((x4 (ix1 0) : EReal) * bn) (((x4 (ix1 0) : EReal) + bn) * ((x4 (ix1 0) : EReal) + bn)) := by
  rw [← count_eq c arg4 harg4 x4]; rfl

theorem r4_eq : r_4 c arg1 harg1 x1 = momOf x1 := by
  funext i
  obtain ⟨d, e, k, rfl⟩ : ∃ (d e : Fin 32) (k : Fin 128), i = ix3 d e k := ⟨i 0, i 1, i 2, eq_ix3 i⟩
  unfold r_4 k0_pay5
  refine congrArg₂ (fun x y : EReal => x + y) ?_ ?_
  · exact (cast_half _ _ d e k).trans (half2_eq arg1 harg1 x1 0 (by decide) _ 0 d e k)
  · exact (cast_half _ _ d e k).trans (half2_eq arg1 harg1 x1 1 (by decide) _ 0 d e k)

theorem r5_eq : r_5 c arg0 harg0 x0 = meanOf x0 := by
  funext i
  obtain ⟨d, k, rfl⟩ : ∃ (d : Fin 32) (k : Fin 128), i = ix2 d k := ⟨i 0, i 1, eq_ix2 i⟩
  unfold r_5 k0_pay6
  refine congrArg₂ (fun x y : EReal => (x + y) * bnInv) ?_ ?_
  · exact (cast_unlead (n := 32) _ _ d k).trans (half_eq arg0 harg0 x0 0 (by decide) _ 0 d k)
  · exact (cast_unlead (n := 32) _ _ d k).trans (half_eq arg0 harg0 x0 1 (by decide) _ 0 d k)

theorem r6_eq : r_6 c arg0 harg0 arg2 harg2 x0 x2 = distOf x0 x2 := by
  have h := r5_eq c arg0 harg0 x0
  unfold r_5 at h
  unfold r_6 k0_pay7
  rw [h, old_eq]
  rfl

theorem r7_eq : r_7 c arg0 harg0 arg2 harg2 arg4 harg4 x0 x2 x4 = nmuOf x0 x2 (x4 (ix1 0)) := by
  have h := r5_eq c arg0 harg0 x0
  unfold r_5 at h
  unfold r_7 k0_pay8
  rw [h, old_eq, ← count_eq c arg4 harg4 x4]
  rfl

theorem r8_eq : r_8 c arg3 harg3 x3 = x3 := by
  unfold r_8 k0_pay9
  rw [prior_eq]
  funext i
  exact shapeCast_apply x3 _ i i rfl

/-- The matrix that the body factors. -/
theorem cov0_eq : cov0 c arg0 harg0 arg1 harg1 arg2 harg2 arg3 harg3 arg4 harg4 x0 x1 x2 x3 x4 = covOf x0 x1 x2 x3 (x4 (ix1 0)) := by
  unfold cov0 covOf
  rw [r1_eq, r2_eq, r3_eq, r4_eq, r5_eq, r6_eq, r8_eq]

end First

end Cert.FactorValue

end
-- ==== Proof.FactorEntry.lean ====
/- What the reference's loop starts from: the new covariance plus the identity, which the operations before the loop make. -/
module

public import proofs.«01_k».proof.Proof.FactorTrip
public import proofs.«01_k».proof.Proof.FactorSum
public import Idealize.ShloMosaic.Lib.StableHlo.RunClose

@[expose] public section

noncomputable section

namespace Cert.FactorLoop

open Cert.FactorReferenceIdeal Cert.FactorReferenceIdeal.Value Cert.FactorReferenceIdeal.Gen Cert.FactorValue Idealize.ShloMosaic Idealize.ShloMosaic.TcCoe Idealize.ShloMosaic.Tactic
open Idealize.SL.Sem Idealize.ShloMosaic.StableHlo

/-! ## The operations before the loop, by name -/

/-- The batch's length. -/
abbrev bnR : FVec Ideal S_ .f32 := constant (F := Ideal) S_ .f32 0x46800000#32
/-- The count so far. -/
def cntR (a4 : FVec Ideal S1 .f32) : FVec Ideal S_ .f32 := shapeCast S_ a4 shapeCasts_S1_S_
/-- The count with the batch. -/
def allR (a4 : FVec Ideal S1 .f32) : FVec Ideal S_ .f32 := addf (cntR a4) bnR
/-- The batch's mean. -/
def meanR (a0 : FVec Ideal S2x32x128 .f32) : FVec Ideal S32x128 .f32 :=
  Host.divf (addf (shapeCast S32x128 (extractStridedSlice S1x32x128 ![0, 0, 0] a0 slices_S2x32x128_S1x32x128_0_0_0) shapeCasts_S1x32x128_S32x128)
    (shapeCast S32x128 (extractStridedSlice S1x32x128 ![1, 0, 0] a0 slices_S2x32x128_S1x32x128_1_0_0) shapeCasts_S1x32x128_S32x128)) (broadcastInDim S32x128 ![] bcast_S_S32x128 bnR)
/-- The batch's second moments. -/
def momR (a1 : FVec Ideal S2x32x32x128 .f32) : FVec Ideal S32x32x128 .f32 :=
  addf (shapeCast S32x32x128 (extractStridedSlice S1x32x32x128 ![0, 0, 0, 0] a1 slices_S2x32x32x128_S1x32x32x128_0_0_0_0) shapeCasts_S1x32x32x128_S32x32x128)
    (shapeCast S32x32x128 (extractStridedSlice S1x32x32x128 ![1, 0, 0, 0] a1 slices_S2x32x32x128_S1x32x32x128_1_0_0_0) shapeCasts_S1x32x32x128_S32x32x128)
/-- A vector's products with itself. -/
def outerR (x : FVec Ideal S32x128 .f32) : FVec Ideal S32x32x128 .f32 :=
  mulf (broadcastInDim S32x32x128 ![0, 1, 2] bcast_S32x1x128_S32x32x128_0_1_2 (broadcastInDim S32x1x128 ![0, 2] bcast_S32x128_S32x1x128_0_2 x))
    (broadcastInDim S32x32x128 ![0, 1, 2] bcast_S1x32x128_S32x32x128_0_1_2 (broadcastInDim S1x32x128 ![1, 2] bcast_S32x128_S1x32x128_1_2 x))
/-- A matrix made of its blocks on and right of the diagonal. -/
def pickR (s : FVec Ideal S32x32x128 .f32) : FVec Ideal S32x32x128 .f32 :=
  select (cmpi .sge (Host.divsi (iotaInDim S32x32x128 32 1) (broadcastInDim S32x32x128 ![] bcast_S_S32x32x128 (constantI S_ 32 8#32)))
    (Host.divsi (iotaInDim S32x32x128 32 0) (broadcastInDim S32x32x128 ![] bcast_S_S32x32x128 (constantI S_ 32 8#32)))) s
    (transpose S32x32x128 [1, 0, 2] s transposes_S32x32x128_S32x32x128_1_0_2)
/-- The prior covariance, of its factor. -/
def gramR (a3 : FVec Ideal S128x32x32 .f32) : FVec Ideal S32x32x128 .f32 :=
  transpose S32x32x128 [2, 1, 0] (Host.dotGeneral dot_S128x32x32_S128x32x32_S128x32x32_2_2_1_1_0_0 none a3 a3) transposes_S128x32x32_S32x32x128_2_1_0
/-- The identity. -/
def eyeR : FVec Ideal S32x32x128 .f32 :=
  select (cmpi .eq (iotaInDim S32x32x128 32 0) (iotaInDim S32x32x128 32 1)) (broadcastInDim S32x32x128 ![] bcast_S_S32x32x128 (constant (F := Ideal) S_ .f32 0x3F800000#32))
    (broadcastInDim S32x32x128 ![] bcast_S_S32x32x128 (constant (F := Ideal) S_ .f32 0x00000000#32))
/-- One number everywhere. -/
abbrev allover (s : FVec Ideal S_ .f32) : FVec Ideal S32x32x128 .f32 := broadcastInDim S32x32x128 ![] bcast_S_S32x32x128 s
/-- The matrix that the loop factors. -/
def covR (a0 : FVec Ideal S2x32x128 .f32) (a1 : FVec Ideal S2x32x32x128 .f32) (a2 : FVec Ideal S32x128 .f32) (a3 : FVec Ideal S128x32x32 .f32) (a4 : FVec Ideal S1 .f32) :
    FVec Ideal S32x32x128 .f32 :=
  addf (addf (addf (mulf (gramR a3) (allover (Host.divf (cntR a4) (allR a4))))
      (mulf (subf (pickR (momR a1)) (mulf (allover bnR) (outerR (meanR a0)))) (allover (Host.divf (constant (F := Ideal) S_ .f32 0x3F800000#32) (allR a4)))))
      (mulf (outerR (subf (meanR a0) a2)) (allover (Host.divf (mulf (cntR a4) bnR) (mulf (allR a4) (allR a4)))))) eyeR

/-! ## Their values -/

theorem bn_real : bn = ((16384 : ℝ) : EReal) := by
  show Ideal.ofBits .f32 0x46800000#32 = _
  simp [Ideal.ofBits, Ideal.ieee]
  rw [← EReal.coe_mul]
  norm_num

theorem bnInv_real : bnInv = ((1 / 16384 : ℝ) : EReal) := by
  show Ideal.ofBits .f32 0x38800000#32 = _
  simp [Ideal.ofBits, Ideal.ieee]
  rw [← EReal.coe_mul]
  norm_num

/-- Division by the batch's length, as the kernel takes it. -/
theorem div_bn (x : EReal) : quot x bn = x * bnInv := by
  rw [bn_real, bnInv_real]
  exact Ideal.div_coe (by norm_num) x

theorem allover_val (s : FVec Ideal S_ .f32) (i : S32x32x128.Idx) (j : S_.Idx) : allover s i = s j :=
  broadcastInDim_apply _ _ s i j (fun a => a.elim0)

theorem cnt_val (a4 : FVec Ideal S1 .f32) (j : S_.Idx) : cntR a4 j = a4 (ix1 0) :=
  shapeCast_apply a4 _ _ _ rfl

theorem mean_val (a0 : FVec Ideal S2x32x128 .f32) : meanR a0 = meanOf a0 := by
  funext i
  obtain ⟨d, k, rfl⟩ : ∃ (d : Fin 32) (k : Fin 128), i = ix2 d k := ⟨i 0, i 1, eq_ix2 i⟩
  refine Eq.trans ?_ (div_bn _)
  unfold meanR
  pointwise

theorem mom_val (a1 : FVec Ideal S2x32x32x128 .f32) : momR a1 = momOf a1 := by
  funext i
  obtain ⟨d, e, k, rfl⟩ : ∃ (d e : Fin 32) (k : Fin 128), i = ix3 d e k := ⟨i 0, i 1, i 2, eq_ix3 i⟩
  unfold momR
  pointwise
  rfl

theorem outer_val (x : FVec Ideal S32x128 .f32) (d e : Fin 32) (k : Fin 128) : (outerR x (ix3 d e k) : EReal) = x (ix2 d k) * x (ix2 e k) :=
  congrArg₂ (fun x y : EReal => x * y) (along_rows x _ _ d e k) (along_cols x _ _ d e k)

/-- The blocks on and right of the diagonal. -/
theorem block_val : ∀ d e : Fin 32, IntOp.cmpi .sge (IntOp.divsi .host (BitVec.ofNat 32 e.val) 8#32) (IntOp.divsi .host (BitVec.ofNat 32 d.val) 8#32) = BitVec.ofBool (decide (8 * (d.val / 8) ≤ e.val)) := by
  decide +kernel

theorem pick_val (s : FVec Ideal S32x32x128 .f32) (d e : Fin 32) (k : Fin 128) :
    (pickR s (ix3 d e k) : EReal) = if 8 * (d.val / 8) ≤ e.val then s (ix3 d e k) else s (ix3 e d k) := by
  unfold pickR
  pointwise
  rw [block_val]
  by_cases h : 8 * (d.val / 8) ≤ e.val
  · rw [if_pos h, decide_eq_true h]; rfl
  · rw [if_neg h, decide_eq_false h]; rfl

theorem gram_val (a3 : FVec Ideal S128x32x32 .f32) (d e : Fin 32) (k : Fin 128) :
    (gramR a3 (ix3 d e k) : EReal) = ∑ f : Fin 32, (a3 (ix3 k d f) : EReal) * a3 (ix3 k e f) := by
  unfold gramR
  pointwise
  exact Finset.sum_congr rfl fun f _ => mul_comm _ _

/-- The diagonal. -/
theorem diag_val : ∀ d e : Fin 32, IntOp.cmpi .eq (BitVec.ofNat 32 d.val) (BitVec.ofNat 32 e.val) = BitVec.ofBool (decide (e.val = d.val)) := by
  decide +kernel

theorem eye_val (d e : Fin 32) (k : Fin 128) : (eyeR (ix3 d e k) : EReal) = if e.val = d.val then 1 else 0 := by
  unfold eyeR
  pointwise
  rw [diag_val]
  by_cases h : e.val = d.val
  · rw [if_pos h, decide_eq_true h]; rfl
  · rw [if_neg h, decide_eq_false h]; rfl

/-- The matrix, read at an index. -/
theorem cov_val (a0 : FVec Ideal S2x32x128 .f32) (a1 : FVec Ideal S2x32x32x128 .f32) (a2 : FVec Ideal S32x128 .f32) (a3 : FVec Ideal S128x32x32 .f32) (a4 : FVec Ideal S1 .f32)
    (l0 : FVec Ideal S32x32x128 .f32) (hl : ∀ (d f : Fin 32) (k : Fin 128), l0 (ix3 d f k) = a3 (ix3 k d f)) (d e : Fin 32) (k : Fin 128) :
    (covR a0 a1 a2 a3 a4 (ix3 d e k) : EReal) = covOf a0 a1 a2 l0 (a4 (ix1 0)) d.val e.val k := by
  have hs : ∀ (s : FVec Ideal S_ .f32), allover s (ix3 d e k) = s ix0 := fun s => allover_val s _ _
  have hc : cntR a4 ix0 = a4 (ix1 0) := cnt_val a4 _
  have ha : (allR a4 ix0 : EReal) = (a4 (ix1 0) : EReal) + bn := congrArg (fun x : EReal => x + bn) hc
  show ((gramR a3 (ix3 d e k) : EReal) * allover (Host.divf (cntR a4) (allR a4)) (ix3 d e k)
      + ((pickR (momR a1) (ix3 d e k) : EReal) - allover bnR (ix3 d e k) * outerR (meanR a0) (ix3 d e k)) * allover (Host.divf (constant (F := Ideal) S_ .f32 0x3F800000#32) (allR a4)) (ix3 d e k)
      + (outerR (subf (meanR a0) a2) (ix3 d e k) : EReal) * allover (Host.divf (mulf (cntR a4) bnR) (mulf (allR a4) (allR a4))) (ix3 d e k)) + eyeR (ix3 d e k) = _
  rw [hs, hs, hs, hs, gram_val, pick_val, outer_val, outer_val, eye_val, mean_val, mom_val]
  show (_ * quot (cntR a4 ix0) (allR a4 ix0) + _ * quot (FloatOps.ofBits (F := Ideal) .f32 0x3F800000#32) (allR a4 ix0)
    + _ * quot ((cntR a4 ix0 : EReal) * bn) ((allR a4 ix0 : EReal) * allR a4 ix0)) + _ = _
  rw [hc, ha]
  unfold covOf cov
  simp only [ofNat_val, hl]
  rfl

section Start
variable (m : (ℓ : Loc nD τ sig) → Buf (Elt Ideal) ℓ) (c : Dev nD)

set_option maxRecDepth 8192 in
set_option maxHeartbeats 4000000 in
theorem entry_left : leftOf (entryContents preI m c) = covR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  show entryContents preI m c (no_index (Proc.devRef .tc main_v60_5)) = _
  simp only [entryContents, preI, afterL_cons, afterL_nil, hostOps0]
  after_results_entrywise []

set_option maxRecDepth 8192 in
set_option maxHeartbeats 4000000 in
theorem entry_rows : rowsOf (entryContents preI m c) = iotaInDim S32x128 32 0 := by
  show entryContents preI m c (no_index (Proc.devRef .tc main_v60_0)) = _
  simp only [entryContents, preI, afterL_cons, afterL_nil, hostOps0]
  after_results_entrywise []

set_option maxRecDepth 8192 in
set_option maxHeartbeats 4000000 in
theorem entry_zeros : zerosOf (entryContents preI m c) = broadcastInDim S32x128 ![] bcast_S_S32x128 (constant (F := Ideal) S_ .f32 0x00000000#32) := by
  show entryContents preI m c (no_index (Proc.devRef .tc main_v60_1)) = _
  simp only [entryContents, preI, afterL_cons, afterL_nil, hostOps0]
  after_results_entrywise []

set_option maxRecDepth 8192 in
set_option maxHeartbeats 4000000 in
theorem entry_ones : onesOf (entryContents preI m c) = broadcastInDim S32x128 ![] bcast_S_S32x128 (constant (F := Ideal) S_ .f32 0x3F800000#32) := by
  show entryContents preI m c (no_index (Proc.devRef .tc main_v60_2)) = _
  simp only [entryContents, preI, afterL_cons, afterL_nil, hostOps0]
  after_results_entrywise []

set_option maxRecDepth 8192 in
set_option maxHeartbeats 4000000 in
theorem entry_ctr : ctrOf (entryContents preI m c) = constantI S_ 32 0#32 := by
  show entryContents preI m c (no_index (Proc.devRef .tc main_v60_4)) = _
  simp only [entryContents, preI, afterL_cons, afterL_nil, hostOps0]
  after_results_entrywise []

set_option maxRecDepth 8192 in
set_option maxHeartbeats 4000000 in
theorem entry_inv : invOf (entryContents preI m c) = allover (constant (F := Ideal) S_ .f32 0x00000000#32) := by
  show entryContents preI m c (no_index (Proc.devRef .tc main_v60_7)) = _
  simp only [entryContents, preI, afterL_cons, afterL_nil, hostOps0]
  after_results_entrywise []

/-- Before the first trip. -/
theorem start (l0 : FVec Ideal S32x32x128 .f32)
    (hl : ∀ (d f : Fin 32) (k : Fin 128), l0 (ix3 d f k) = (m ((c.tc : Thread nD τ).loc main_arg3) : FVec Ideal S128x32x32 .f32) (ix3 k d f)) :
    State (covOf (m ((c.tc : Thread nD τ).loc main_arg0)) (m ((c.tc : Thread nD τ).loc main_arg1)) (m ((c.tc : Thread nD τ).loc main_arg2)) l0
      ((m ((c.tc : Thread nD τ).loc main_arg4) : FVec Ideal S1 .f32) (ix1 0))) 0 (entryContents preI m c) where
  ctr := entry_ctr m c
  row d k := by rw [entry_rows]; rfl
  zero d k := by rw [entry_zeros]; pointwise
  one d k := by rw [entry_ones]; pointwise
  left d e k _ _ := by rw [entry_left]; exact cov_val _ _ _ _ _ l0 hl d e k
  fact _ _ _ h _ := absurd h (Nat.not_lt_zero _)
  inver _ _ _ h := absurd h (Nat.not_lt_zero _)
  empty i e k _ := by rw [entry_inv]; pointwise

end Start

end Cert.FactorLoop

end
-- ==== Proof.FactorRun.lean ====
/- The factor call's three result arrays as functions of its five arguments: the call's one point stages every array whole,
   so what the body leaves in its three output buffers is what the arrays end with. -/
module

public import proofs.«01_k».proof.Proof.FactorSum
public import Idealize.ShloMosaic.Lib.Pipeline.Value
public import Idealize.ShloMosaic.Lib.StableHlo.RunClose
public import Idealize.ShloMosaic.Lib.VecWindow

@[expose] public section

set_option maxRecDepth 16384

noncomputable section

namespace Cert.FactorValue

open Cert.FactorIdeal Cert.FactorIdeal.Gen Idealize.ShloMosaic Idealize.ShloMosaic.TcCoe Idealize.SL.Sem Idealize.ShloMosaic.StableHlo
open Idealize.ShloMosaic.Pipeline (Dat)

/-- The prior's factor with the clusters last. -/
def lastOf (a3 : Vec Ideal S128x32x32 .f32) : Vec Ideal S32x32x128 .f32 := fun i => a3 (ix3 (i 2) (i 0) (i 1))

variable (m : (ℓ : Loc nD τ sig) → Buf (Elt Ideal) ℓ) (ρ : Dev nD → PrngReg)

/-- The host's one operation before the call. -/
theorem V_main_v0 (c : Dev nD) : (V m c main_v0 : Vec Ideal S32x32x128 .f32) = lastOf (m ((c.tc : Thread nD τ).loc main_arg3)) := by
  have h : V m c main_v0 = transpose S32x32x128 [1, 2, 0] (m ((c.tc : Thread nD τ).loc main_arg3)) transposes_S128x32x32_S32x32x128_1_2_0 := by
    show StableHlo.after hostOps0 (fun b => m (c, b)) (no_index (Proc.devRef .tc main_v0)) = _
    simp only [hostOps0]
    after_results_entrywise []
  rw [h]
  funext i
  obtain ⟨d, f, k, rfl⟩ : ∃ (d f : Fin 32) (k : Fin 128), i = ix3 d f k := ⟨i 0, i 1, i 2, eq_ix3 i⟩
  exact transpose_apply _ _ _ _ (ix3 k d f) (fun a => by
    match a with
    | ⟨0, _⟩ => rfl
    | ⟨1, _⟩ => rfl
    | ⟨2, _⟩ => rfl)

/-! ## The input blocks are the arrays -/

theorem iblk0_eq (c : Dev nD) (t : Fin cfg0.N) : iblk m c 0 t = V m c main_arg0 := by
  funext j; show V m c main_arg0 (((cfg0.win 0).blk t).view.emb j) = V m c main_arg0 j
  refine congrArg (V m c main_arg0) ?_
  funext a; apply Fin.ext
  match a with
  | ⟨0, _⟩ => show 0 * 2 + 1 * (j 0).val = (j 0).val; omega
  | ⟨1, _⟩ => show 0 * 32 + 1 * (j 1).val = (j 1).val; omega
  | ⟨2, _⟩ => show 0 * 128 + 1 * (j 2).val = (j 2).val; omega

theorem iblk1_eq (c : Dev nD) (t : Fin cfg0.N) : iblk m c 1 t = V m c main_arg1 := by
  funext j; show V m c main_arg1 (((cfg0.win 1).blk t).view.emb j) = V m c main_arg1 j
  refine congrArg (V m c main_arg1) ?_
  funext a; apply Fin.ext
  match a with
  | ⟨0, _⟩ => show 0 * 2 + 1 * (j 0).val = (j 0).val; omega
  | ⟨1, _⟩ => show 0 * 32 + 1 * (j 1).val = (j 1).val; omega
  | ⟨2, _⟩ => show 0 * 32 + 1 * (j 2).val = (j 2).val; omega
  | ⟨3, _⟩ => show 0 * 128 + 1 * (j 3).val = (j 3).val; omega

theorem iblk2_eq (c : Dev nD) (t : Fin cfg0.N) : iblk m c 2 t = V m c main_arg2 := by
  funext j; show V m c main_arg2 (((cfg0.win 2).blk t).view.emb j) = V m c main_arg2 j
  refine congrArg (V m c main_arg2) ?_
  funext a; apply Fin.ext
  match a with
  | ⟨0, _⟩ => show 0 * 32 + 1 * (j 0).val = (j 0).val; omega
  | ⟨1, _⟩ => show 0 * 128 + 1 * (j 1).val = (j 1).val; omega

theorem iblk3_eq (c : Dev nD) (t : Fin cfg0.N) : iblk m c 3 t = V m c main_v0 := by
  funext j; show V m c main_v0 (((cfg0.win 3).blk t).view.emb j) = V m c main_v0 j
  refine congrArg (V m c main_v0) ?_
  funext a; apply Fin.ext
  match a with
  | ⟨0, _⟩ => show 0 * 32 + 1 * (j 0).val = (j 0).val; omega
  | ⟨1, _⟩ => show 0 * 32 + 1 * (j 1).val = (j 1).val; omega
  | ⟨2, _⟩ => show 0 * 128 + 1 * (j 2).val = (j 2).val; omega

theorem iblk4_eq (c : Dev nD) (t : Fin cfg0.N) : iblk m c 4 t = V m c main_arg4 := by
  funext j; show V m c main_arg4 (((cfg0.win 4).blk t).view.emb j) = V m c main_arg4 j
  refine congrArg (V m c main_arg4) ?_
  funext a; apply Fin.ext
  match a with
  | ⟨0, _⟩ => show 0 * 1 + 1 * (j 0).val = (j 0).val; omega

/-! ## What the output buffers hold -/

/-- The matrix that the call factors, of the memory it starts from. -/
abbrev matOf (c : Dev nD) : Mat :=
  covOf (m ((c.tc : Thread nD τ).loc main_arg0)) (m ((c.tc : Thread nD τ).loc main_arg1)) (m ((c.tc : Thread nD τ).loc main_arg2))
    (lastOf (m ((c.tc : Thread nD τ).loc main_arg3))) ((m ((c.tc : Thread nD τ).loc main_arg4) : Vec Ideal S1 .f32) (ix1 0))

/-- The new mean, of the memory it starts from. -/
abbrev newOf (c : Dev nD) : FVec Ideal S32x128 .f32 :=
  nmuOf (m ((c.tc : Thread nD τ).loc main_arg0)) (m ((c.tc : Thread nD τ).loc main_arg2)) ((m ((c.tc : Thread nD τ).loc main_arg4) : Vec Ideal S1 .f32) (ix1 0))

section Body
variable (c : Dev nD) (arg0 : Memref sig .tc .vmem S2x32x128 .f32) (harg0 : arg0.IsWhole) (arg1 : Memref sig .tc .vmem S2x32x32x128 .f32) (harg1 : arg1.IsWhole)
  (arg2 : Memref sig .tc .vmem S32x128 .f32) (harg2 : arg2.IsWhole) (arg3 : Memref sig .tc .vmem S32x32x128 .f32) (harg3 : arg3.IsWhole)
  (arg4 : Memref sig .tc .smem S1 .f32) (harg4 : arg4.IsWhole) (arg5 : Memref sig .tc .vmem S32x32x128 .f32) (harg5 : arg5.IsWhole)
  (arg6 : Memref sig .tc .vmem S32x128 .f32) (harg6 : arg6.IsWhole) (arg7 : Memref sig .tc .vmem S32x128 .f32) (harg7 : arg7.IsWhole)
  (arg8 : Memref sig .tc .vmem S32x32x128 .f32) (harg8 : arg8.IsWhole) (arg9 : Memref sig .tc .vmem S32x32x128 .f32) (harg9 : arg9.IsWhole)
  (x0 : Vec Ideal S2x32x128 .f32) (x1 : Vec Ideal S2x32x32x128 .f32) (x2 : Vec Ideal S32x128 .f32) (x3 : Vec Ideal S32x32x128 .f32) (x4 : Vec Ideal S1 .f32)

theorem out5_eq : out0_A_5 c arg0 harg0 arg1 harg1 arg2 harg2 arg3 harg3 arg4 harg4 arg5 harg5 arg6 harg6 arg7 harg7 arg8 harg8 arg9 harg9 x0 x1 x2 x3 x4
    = wtOf (covOf x0 x1 x2 x3 (x4 (ix1 0))) := by
  funext i
  obtain ⟨d, e, k, rfl⟩ : ∃ (d e : Fin 32) (k : Fin 128), i = ix3 d e k := ⟨i 0, i 1, i 2, eq_ix3 i⟩
  have h := written c arg0 harg0 arg1 harg1 arg2 harg2 arg3 harg3 arg4 harg4 arg8 arg9 x0 x1 x2 x3 x4 arg5 harg5 arg6 harg6 arg7 harg7 harg8 harg9 VO0_5 d e k d.isLt
  rw [cov0_eq] at h
  exact h

theorem out7_eq : out0_A_7 c arg0 harg0 arg1 harg1 arg2 harg2 arg3 harg3 arg4 harg4 arg5 harg5 arg6 harg6 arg7 harg7 arg8 harg8 arg9 harg9 x0 x1 x2 x3 x4
    = wmuOf (covOf x0 x1 x2 x3 (x4 (ix1 0))) (nmuOf x0 x2 (x4 (ix1 0))) := by
  funext i
  obtain ⟨d, k, rfl⟩ : ∃ (d : Fin 32) (k : Fin 128), i = ix2 d k := ⟨i 0, i 1, eq_ix2 i⟩
  have h := (inverted c arg0 harg0 arg1 harg1 arg2 harg2 arg3 harg3 arg4 harg4 arg8 arg9 x0 x1 x2 x3 x4 arg5 harg5 arg6 harg6 arg7 harg7 harg8 harg9 VO0_7).2 d k d.isLt
  rw [cov0_eq, r7_eq] at h
  exact h

theorem out6_eq : out0_A_6 c arg0 harg0 arg1 harg1 arg2 harg2 arg3 harg3 arg4 harg4 arg5 harg5 arg6 harg6 arg7 harg7 arg8 harg8 arg9 harg9 x0 x1 x2 x3 x4
    = nmuOf x0 x2 (x4 (ix1 0)) := by
  rw [← r7_eq c arg0 harg0 arg2 harg2 arg4 harg4 x0 x2 x4]
  unfold out0_A_6
  exact View.read_writes_full VO0_6 VO0_6.junk _ _ _

end Body

theorem outs_eq (c : Dev nD) (t : Fin cfg0.N) :
    outsAt0 m c t = (wtOf (matOf m c), newOf m c, wmuOf (matOf m c) (newOf m c)) := by
  have h0 : iblk m c 0 t = m ((c.tc : Thread nD τ).loc main_arg0) := (iblk0_eq m c t).trans (V_main_arg0 m c)
  have h1 : iblk m c 1 t = m ((c.tc : Thread nD τ).loc main_arg1) := (iblk1_eq m c t).trans (V_main_arg1 m c)
  have h2 : iblk m c 2 t = m ((c.tc : Thread nD τ).loc main_arg2) := (iblk2_eq m c t).trans (V_main_arg2 m c)
  have h3 : (iblk m c 3 t : Vec Ideal S32x32x128 .f32) = lastOf (m ((c.tc : Thread nD τ).loc main_arg3)) := (iblk3_eq m c t).trans (V_main_v0 m c)
  have h4 : iblk m c 4 t = m ((c.tc : Thread nD τ).loc main_arg4) := (iblk4_eq m c t).trans (V_main_arg4 m c)
  unfold outsAt0
  rw [out5_eq, out6_eq, out7_eq, h0, h1, h2, h3, h4]

/-! ## The arrays at the end -/

theorem emb5 (t : Fin cfg0.N) (j : S32x32x128.Idx) : ((cfg0.win 5).blk t).view.emb j = j := by
  funext a; apply Fin.ext
  match a with
  | ⟨0, _⟩ => show 0 * 32 + 1 * (j 0).val = (j 0).val; omega
  | ⟨1, _⟩ => show 0 * 32 + 1 * (j 1).val = (j 1).val; omega
  | ⟨2, _⟩ => show 0 * 128 + 1 * (j 2).val = (j 2).val; omega

theorem emb6 (t : Fin cfg0.N) (j : S32x128.Idx) : ((cfg0.win 6).blk t).view.emb j = j := by
  funext a; apply Fin.ext
  match a with
  | ⟨0, _⟩ => show 0 * 32 + 1 * (j 0).val = (j 0).val; omega
  | ⟨1, _⟩ => show 0 * 128 + 1 * (j 1).val = (j 1).val; omega

theorem emb7 (t : Fin cfg0.N) (j : S32x128.Idx) : ((cfg0.win 7).blk t).view.emb j = j := by
  funext a; apply Fin.ext
  match a with
  | ⟨0, _⟩ => show 0 * 32 + 1 * (j 0).val = (j 0).val; omega
  | ⟨1, _⟩ => show 0 * 128 + 1 * (j 1).val = (j 1).val; omega

/-- The call's only point. -/
abbrev point : Fin cfg0.N := ⟨0, by decide⟩

theorem final5 (c : Dev nD) : (dats m 0 c).arrAt 5 cfg0.N = wtOf (matOf m c) :=
  (dats m 0 c).arrAt_eq_of_cover 5 (wtOf (matOf m c)) (fun t _ => by
    show (cfg0.win 5).cut (grid0.coords t) ((dats m 0 c).after 5 t) = _
    rw [after0_5, outs_eq]
    funext j
    show wtOf (matOf m c) j = wtOf (matOf m c) (((cfg0.win 5).blk t).view.emb j)
    rw [emb5]) (fun i => ⟨point, flush0_5 _, (congrArg (· ∈ ((cfg0.win 5).blk point).view.set) (emb5 point i)).mp
      (((cfg0.win 5).blk point).view.emb_mem_set i)⟩)

theorem final6 (c : Dev nD) : (dats m 0 c).arrAt 6 cfg0.N = newOf m c :=
  (dats m 0 c).arrAt_eq_of_cover 6 (newOf m c) (fun t _ => by
    show (cfg0.win 6).cut (grid0.coords t) ((dats m 0 c).after 6 t) = _
    rw [after0_6, outs_eq]
    funext j
    show newOf m c j = newOf m c (((cfg0.win 6).blk t).view.emb j)
    rw [emb6]) (fun i => ⟨point, flush0_6 _, (congrArg (· ∈ ((cfg0.win 6).blk point).view.set) (emb6 point i)).mp
      (((cfg0.win 6).blk point).view.emb_mem_set i)⟩)

theorem final7 (c : Dev nD) : (dats m 0 c).arrAt 7 cfg0.N = wmuOf (matOf m c) (newOf m c) :=
  (dats m 0 c).arrAt_eq_of_cover 7 (wmuOf (matOf m c) (newOf m c)) (fun t _ => by
    show (cfg0.win 7).cut (grid0.coords t) ((dats m 0 c).after 7 t) = _
    rw [after0_7, outs_eq]
    funext j
    show wmuOf (matOf m c) (newOf m c) j = wmuOf (matOf m c) (newOf m c) (((cfg0.win 7).blk t).view.emb j)
    rw [emb7]) (fun i => ⟨point, flush0_7 _, (congrArg (· ∈ ((cfg0.win 7).blk point).view.set) (emb7 point i)).mp
      (((cfg0.win 7).blk point).view.emb_mem_set i)⟩)

/-- The run, its three result arrays functions of the arguments. -/
theorem run : θ_run defs (onTc (τ := τ) (main (F := Ideal))) ⟨m, fun _ => 0, ρ⟩ fun r => ∀ c : Dev nD,
      r.2.mem ((c.tc : Thread nD τ).loc main_v1_0) = wtOf (matOf m c)
      ∧ r.2.mem ((c.tc : Thread nD τ).loc main_v1_1) = newOf m c
      ∧ r.2.mem ((c.tc : Thread nD τ).loc main_v1_2) = wmuOf (matOf m c) (newOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩) (run_main m ρ)

end Cert.FactorValue

end
-- ==== Proof.FactorValue.lean ====
/- The factor call's value claim: the reference's three results are the functions that the kernel's result arrays are, of
   the same arguments. -/
module

public import proofs.«01_k».proof.Proof.FactorEntry
public import proofs.«01_k».proof.Proof.FactorRun
public import proofs.«01_k».proof.Defs

@[expose] public section

noncomputable section

namespace Cert.FactorLoop

open Cert.FactorReferenceIdeal Cert.FactorReferenceIdeal.Value Cert.FactorReferenceIdeal.Gen Cert.FactorValue Idealize.ShloMosaic Idealize.ShloMosaic.TcCoe Idealize.ShloMosaic.Tactic
open Idealize.SL.Sem Idealize.ShloMosaic.StableHlo

/-- The reference's new mean. -/
def newR (a0 : FVec Ideal S2x32x128 .f32) (a2 : FVec Ideal S32x128 .f32) (a4 : FVec Ideal S1 .f32) : FVec Ideal S32x128 .f32 :=
  Host.divf (addf (mulf (broadcastInDim S32x128 ![] bcast_S_S32x128 (cntR a4)) a2) (mulf (broadcastInDim S32x128 ![] bcast_S_S32x128 bnR) (meanR a0)))
    (broadcastInDim S32x128 ![] bcast_S_S32x128 (allR a4))

theorem new_val (a0 : FVec Ideal S2x32x128 .f32) (a2 : FVec Ideal S32x128 .f32) (a4 : FVec Ideal S1 .f32) : newR a0 a2 a4 = nmuOf a0 a2 (a4 (ix1 0)) := by
  funext i
  have hs : ∀ s : FVec Ideal S_ .f32, broadcastInDim S32x128 ![] bcast_S_S32x128 s i = s ix0 := fun s => broadcastInDim_apply _ _ s i ix0 (fun a => a.elim0)
  have hc : cntR a4 ix0 = a4 (ix1 0) := cnt_val a4 _
  have ha : (allR a4 ix0 : EReal) = (a4 (ix1 0) : EReal) + bn := congrArg (fun x : EReal => x + bn) hc
  show quot ((broadcastInDim S32x128 ![] bcast_S_S32x128 (cntR a4) i : EReal) * a2 i + (broadcastInDim S32x128 ![] bcast_S_S32x128 bnR i : EReal) * meanR a0 i)
    (broadcastInDim S32x128 ![] bcast_S_S32x128 (allR a4) i) = _
  rw [hs, hs, hs, hc, ha, mean_val]
  rfl

section Results
variable (M0 : Mat) (V : Valuation τ sig (Elt Ideal)) (S : State M0 32 V)
include S

theorem wt_eq : out_main_v78 V = wtOf M0 := by
  funext i
  obtain ⟨d, e, k, rfl⟩ : ∃ (d e : Fin 32) (k : Fin 128), i = ix3 d e k := ⟨i 0, i 1, i 2, eq_ix3 i⟩
  unfold out_main_v78
  refine (transpose_apply _ _ _ _ (ix3 e d k) (fun a => by
    match a with
    | ⟨0, _⟩ => rfl
    | ⟨1, _⟩ => rfl
    | ⟨2, _⟩ => rfl)).trans ?_
  exact S.inver e d k e.isLt

omit S in
theorem sum_val (W : FVec Ideal S32x32x128 .f32) (x : FVec Ideal S32x128 .f32) (j : Fin 32) (k : Fin 128) :
    (Host.reduceAdd (mulf W (broadcastInDim S32x32x128 ![0, 1, 2] bcast_S1x32x128_S32x32x128_0_1_2 (broadcastInDim S1x32x128 ![1, 2] bcast_S32x128_S1x32x128_1_2 x)))
      (constant (F := Ideal) S_ .f32 0x00000000#32) reducesTo_S32x32x128_S32x128_d1 h_S_ (ix2 j k) : EReal) = ∑ e : Fin 32, (W (ix3 j e k) : EReal) * x (ix2 e k) := by
  pointwise

theorem wmu_eq (a0 : FVec Ideal S2x32x128 .f32) (a2 : FVec Ideal S32x128 .f32) (a4 : FVec Ideal S1 .f32) (h0 : V (Proc.devRef .tc main_arg0) = a0)
    (h2 : V (Proc.devRef .tc main_arg2) = a2) (h4 : V (Proc.devRef .tc main_arg4) = a4) : out_main_v82 V = wmuOf M0 (nmuOf a0 a2 (a4 (ix1 0))) := by
  rw [← new_val]
  subst h0 h2 h4
  funext i
  obtain ⟨j, k, rfl⟩ : ∃ (j : Fin 32) (k : Fin 128), i = ix2 j k := ⟨i 0, i 1, eq_ix2 i⟩
  refine (sum_val (invOf V) (newR (V (Proc.devRef .tc main_arg0)) (V (Proc.devRef .tc main_arg2)) (V (Proc.devRef .tc main_arg4))) j k).trans ?_
  show _ = ∑ e : Fin 32, inv M0 e.val k j.val * (newR (V (Proc.devRef .tc main_arg0)) (V (Proc.devRef .tc main_arg2)) (V (Proc.devRef .tc main_arg4)) (ix2 e k) : EReal)
  refine Finset.sum_congr rfl fun e _ => ?_
  rw [S.inver j e k j.isLt]

omit S in
theorem nmu_eq (a0 : FVec Ideal S2x32x128 .f32) (a2 : FVec Ideal S32x128 .f32) (a4 : FVec Ideal S1 .f32) (h0 : V (Proc.devRef .tc main_arg0) = a0)
    (h2 : V (Proc.devRef .tc main_arg2) = a2) (h4 : V (Proc.devRef .tc main_arg4) = a4) : out_main_v77 V = nmuOf a0 a2 (a4 (ix1 0)) := by
  rw [← new_val]
  subst h0 h2 h4
  rfl

end Results

end Cert.FactorLoop

namespace Cert.FactorValue

open Cert.FactorReferenceIdeal.Value Idealize.ShloMosaic Idealize.ShloMosaic.TcCoe Idealize.SL.Sem

/-- The claim: kernel and reference leave the same three results. -/
theorem algebraic : Cert.algebraic_FactorIdeal_FactorReferenceIdeal := by
  intro m g m' g' _ hargs
  refine ⟨fun c => wtOf (matOf m c), fun c => newOf m c, fun c => wmuOf (matOf m c) (newOf m c), run m g, ?_⟩
  refine (θ_run Cert.FactorReferenceIdeal.defs _ _).mono (fun r h c => ?_) (Cert.FactorReferenceIdeal.Value.run m' g')
  obtain ⟨h0, h1, h2, h3, h4⟩ := hargs c
  have S := Cert.FactorLoop.trips _ _ (Cert.FactorLoop.start m' c (lastOf (m ((c.tc : Thread Cert.FactorIdeal.nD Cert.FactorIdeal.τ).loc Cert.FactorIdeal.main_arg3)))
    (fun d f k => by rw [h3]; rfl)) 32 (Nat.le_refl _)
  rw [h0, h1, h2, h4] at S
  exact ⟨(h c).1.trans (Cert.FactorLoop.wt_eq _ _ S),
    (h c).2.1.trans (Cert.FactorLoop.nmu_eq _ _ _ _ ((iter_main_arg0 m' c 32).trans h0) ((iter_main_arg2 m' c 32).trans h2) ((iter_main_arg4 m' c 32).trans h4)),
    (h c).2.2.1.trans (Cert.FactorLoop.wmu_eq _ _ S _ _ _ ((iter_main_arg0 m' c 32).trans h0) ((iter_main_arg2 m' c 32).trans h2) ((iter_main_arg4 m' c 32).trans h4)),
    (h c).2.2.2⟩

end Cert.FactorValue

end
-- ==== Proof.WhitenTile.lean ====
/- The body of the whitening call at one grid point, read down to scalars: entry (b, d) of the block it writes is the
   sum over e, up to the end of d's group of eight, of x[b, e] times wt[e, d], less wmu[d]. -/
module

public import proofs.«01_k».proof.Proof.Gen.WhitenIdeal.Value
public import Idealize.ShloMosaic.Lib.Pointwise

@[expose] public section

noncomputable section

namespace Cert.WhitenValue

open Cert.WhitenIdeal Cert.WhitenIdeal.Gen Idealize.ShloMosaic Idealize.ShloMosaic.TcCoe Idealize.ShloMosaic.Tactic

variable {F : FTy → Type} [FloatOps F]

/-- The running sum of one element: the first `n + 1` products `x[b, e] * wt[e, d]`, added in order. -/
def acc (x0 : Vec F S256x32x128 .f32) (x1 : Vec F S32x32x128 .f32) (b : Fin 256) (d : Fin 32) (k : Fin 128) : ℕ → F .f32
  | 0 => FloatOps.mulf (x0 (ix3 b 0 k)) (x1 (ix3 0 d k))
  | n + 1 => FloatOps.addf (acc x0 x1 b d k n) (FloatOps.mulf (x0 (ix3 b (Fin.ofNat 32 (n + 1)) k)) (x1 (ix3 (Fin.ofNat 32 (n + 1)) d k)))

/-- The block the body writes: the sum runs to the end of the row's group of eight. -/
def block (x0 : Vec F S256x32x128 .f32) (x1 : Vec F S32x32x128 .f32) (x2 : Vec F S32x128 .f32) : Vec F S256x32x128 .f32 := fun i =>
  FloatOps.subf (acc x0 x1 (i 0) (i 1) (i 2) ((i 1).val / 8 * 8 + 7)) (x2 (ix2 (i 1) (i 2)))

/-- A column of x spread over a group of eight rows of the result. -/
theorem spread_col {α : Type} (v : S8x1x128.Idx → α) (h) (a b : Fin 8) (k : Fin 128) :
    broadcastTo S8x8x128 v h (ix3 a b k) = v (ix3 a 0 k) := by
  pointwise

/-- One row of a group of eight, its unit axis dropped. -/
theorem drop_unit {α : Type} (v : S1x8x128.Idx → α) (h1) (b : Fin 8) (k : Fin 128) :
    shapeCast S8x128 v h1 (ix2 b k) = v (ix3 0 b k) := by
  pointwise

/-- Eight rows of wmu, spread over the eight rows of the batch. -/
theorem spread_mu {α : Type} (v : S8x128.Idx → α) (h h1) (a b : Fin 8) (k : Fin 128) :
    broadcastTo S8x8x128 (shapeCast S1x8x128 v h1) h (ix3 a b k) = v (ix2 b k) := by
  pointwise

/-- Where a load of one column of eight rows of x reads. -/
theorem idx_col (b0 e : ℕ) (inb) (a : Fin 8) (k : Fin 128) (hb : b0 + 8 ≤ 256) (he : e < 32) :
    (Rect.unit (s := S256x32x128) ![b0, e, 0] S8x1x128.size inb).toLoadRect.idx (ix3 a 0 k) = ix3 ⟨b0 + a.val, by omega⟩ ⟨e, he⟩ k := by
  refine funext fun j => Fin.ext ?_
  fin_cases j <;> simp [ix3, Rect.unit, LoadRect.idx]

/-- Eight entries of one row of wt. -/
theorem slice_row {α : Type} (x1 : S32x32x128.Idx → α) (e d0 : ℕ) (h) (b : Fin 8) (k : Fin 128) (he : e < 32) (hd : d0 + 8 ≤ 32) :
    extractStridedSlice S1x8x128 ![e, d0, 0] x1 h (ix3 0 b k) = x1 (ix3 ⟨e, he⟩ ⟨d0 + b.val, by omega⟩ k) := by
  refine congrArg x1 (funext fun j => Fin.ext ?_)
  fin_cases j <;> simp [ix3]

/-- Eight rows of wmu. -/
theorem slice_mu {α : Type} (x2 : S32x128.Idx → α) (d0 : ℕ) (h) (b : Fin 8) (k : Fin 128) (hd : d0 + 8 ≤ 32) :
    extractStridedSlice S8x128 ![d0, 0] x2 h (ix2 b k) = x2 (ix2 ⟨d0 + b.val, by omega⟩ k) := by
  refine congrArg x2 (funext fun j => Fin.ext ?_)
  fin_cases j <;> simp [ix2]

/-- A load of the whole of wt, or of the whole of wmu, is the array itself. -/
theorem ld_wt (x1 : Vec F S32x32x128 .f32) : View.ld x1 r0_0 = x1 := View.ld_unit_zero (by decide) _ _
theorem ld_mu (x2 : Vec F S32x128 .f32) : View.ld x2 r0_1 = x2 := View.ld_unit_zero (by decide) _ _

/-- A tile of eight rows of the batch and one group of eight rows of the result. -/
theorem of_tile (x0 : Vec F S256x32x128 .f32) (x1 : Vec F S32x32x128 .f32) (x2 : Vec F S32x128 .f32) (b0 d0 : ℕ) (inb)
    (P : Vec F S8x8x128 .f32) (hb : b0 + 8 ≤ 256) (hd : d0 + 8 ≤ 32) (hg : d0 % 8 = 0)
    (hP : ∀ (a b : Fin 8) (k : Fin 128), P (ix3 a b k)
      = FloatOps.subf (acc x0 x1 ⟨b0 + a.val, by omega⟩ ⟨d0 + b.val, by omega⟩ k (d0 + 7)) (x2 (ix2 ⟨d0 + b.val, by omega⟩ k))) :
    ∀ x, P x = block x0 x1 x2 ((Rect.unit (s := S256x32x128) ![b0, d0, 0] S8x8x128.size inb).emb x) := by
  intro x
  obtain ⟨a, b, k, rfl⟩ : ∃ (a b : Fin 8) (k : Fin 128), x = ix3 a b k := ⟨x 0, x 1, x 2, eq_ix3 x⟩
  have e : (Rect.unit (s := S256x32x128) ![b0, d0, 0] S8x8x128.size inb).emb (ix3 a b k)
      = ix3 (⟨b0 + a.val, by omega⟩ : Fin 256) (⟨d0 + b.val, by omega⟩ : Fin 32) k := by
    refine funext fun j => Fin.ext ?_
    fin_cases j <;> simp [ix3, Rect.unit, Rect.emb, LoadRect.idx]
  rw [e, hP]
  show _ = FloatOps.subf (acc x0 x1 _ _ _ ((d0 + b.val) / 8 * 8 + 7)) _
  have : b.val < 8 := b.isLt
  rw [show (d0 + b.val) / 8 * 8 + 7 = d0 + 7 by omega]
  rfl

end Cert.WhitenValue

end
-- ==== Proof.WhitenBlock.lean ====
/- Every one of the body's 128 tiles is the block's, so the body's result is the block. -/
module

public import proofs.«01_k».proof.Proof.WhitenTile

@[expose] public section

set_option maxRecDepth 16384

noncomputable section

namespace Cert.WhitenValue

open Cert.WhitenIdeal Cert.WhitenIdeal.Gen Idealize.ShloMosaic Idealize.ShloMosaic.TcCoe Idealize.ShloMosaic.Tactic

variable {F : FTy → Type} [FloatOps F]

set_option maxHeartbeats 8000000 in
/-- What the body writes back is the block. -/
theorem out_eq (x0 : Vec F S256x32x128 .f32) (x1 : Vec F S32x32x128 .f32) (x2 : Vec F S32x128 .f32) :
    out0_3 x0 x1 x2 = block x0 x1 x2 := by
  funext y
  unfold out0_3
  dsimp only
  refine View.canon_apply_of_pieces (block x0 x1 x2) _ ?_ y (cover0_3 _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ y)
  clear y
  rw [ld_wt, ld_mu]
  repeat
    refine List.forall_mem_cons.2 ⟨of_tile x0 x1 x2 _ _ (by decide) _ (by decide) (by decide) (by decide) fun a b k => ?_, ?_⟩
    · unfold_payloads
      simp only [subf_apply, addf_apply, mulf_apply, spread_col, spread_mu, drop_unit, View.ld, idx_col, slice_row, slice_mu,
        Nat.reduceAdd, Nat.reduceLeDiff, Nat.reduceLT, acc]
      rfl
  exact fun p hp => absurd hp List.not_mem_nil

end Cert.WhitenValue

end
-- ==== Proof.WhitenRun.lean ====
/- The whitening call's result array as one function of its three arguments: the grid's 64 blocks of 256 batch rows put
   together. -/
module

public import proofs.«01_k».proof.Proof.WhitenBlock

@[expose] public section

noncomputable section

namespace Cert.WhitenValue

open Cert.WhitenIdeal Cert.WhitenIdeal.Gen Cert.WhitenIdeal.Value Idealize.ShloMosaic Idealize.ShloMosaic.TcCoe Idealize.SL.Sem
open Idealize.ShloMosaic.Pipeline (Dat)

variable {F : FTy → Type} [FloatOps F]

/-- The running sum over the whole batch: as `acc`, of the array of 16384 rows. -/
def accW (x : Vec F S16384x32x128 .f32) (wt : Vec F S32x32x128 .f32) (b : Fin 16384) (d : Fin 32) (k : Fin 128) : ℕ → F .f32
  | 0 => FloatOps.mulf (x (ix3 b 0 k)) (wt (ix3 0 d k))
  | n + 1 => FloatOps.addf (accW x wt b d k n) (FloatOps.mulf (x (ix3 b (Fin.ofNat 32 (n + 1)) k)) (wt (ix3 (Fin.ofNat 32 (n + 1)) d k)))

/-- The result array. -/
def whole (x : Vec F S16384x32x128 .f32) (wt : Vec F S32x32x128 .f32) (wmu : Vec F S32x128 .f32) : Vec F S16384x32x128 .f32 := fun i =>
  FloatOps.subf (accW x wt (i 0) (i 1) (i 2) ((i 1).val / 8 * 8 + 7)) (wmu (ix2 (i 1) (i 2)))

/-- A block's running sum is the array's at the block's row. -/
theorem acc_eq (x : Vec F S16384x32x128 .f32) (x0 : Vec F S256x32x128 .f32) (wt : Vec F S32x32x128 .f32) (b : Fin 256) (B : Fin 16384)
    (h : ∀ (e : Fin 32) (k : Fin 128), x0 (ix3 b e k) = x (ix3 B e k)) (d : Fin 32) (k : Fin 128) (n : ℕ) :
    acc x0 wt b d k n = accW x wt B d k n := by
  induction n with
  | zero => simp only [acc, accW, h]
  | succ n ih => simp only [acc, accW, h, ih]

variable (m : (ℓ : Loc nD τ sig) → Buf (Elt F) ℓ) (ρ : Dev nD → PrngReg)

/-- The blocks of x and of the result go down the batch, those of wt and wmu stay. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Row `a` of block `t`, as a row of the batch. -/
def row (t : Fin cfg0.N) (a : Fin 256) : Fin 16384 := ⟨t.val * 256 + a.val, by
  have h : t.val < 64 := t.isLt
  omega⟩

theorem emb0 (t : Fin cfg0.N) (a : Fin 256) (d : Fin 32) (k : Fin 128) :
    ((cfg0.win 0).blk t).view.emb (ix3 a d k) = (ix3 (row t a) d k : S16384x32x128.Idx) := by
  obtain ⟨e0, e1, e2⟩ := index0 t
  funext j; apply Fin.ext
  match j with
  | ⟨0, _⟩ => show win0_0.index t (0 : Fin 3) * 256 + 1 * a.val = t.val * 256 + a.val; omega
  | ⟨1, _⟩ => show win0_0.index t (1 : Fin 3) * 32 + 1 * d.val = d.val; omega
  | ⟨2, _⟩ => show win0_0.index t (2 : Fin 3) * 128 + 1 * k.val = k.val; omega

theorem emb3 (t : Fin cfg0.N) (a : Fin 256) (d : Fin 32) (k : Fin 128) :
    ((cfg0.win 3).blk t).view.emb (ix3 a d k) = (ix3 (row t a) d k : S16384x32x128.Idx) := by
  obtain ⟨e0, e1, e2⟩ := index3 t
  funext j; apply Fin.ext
  match j with
  | ⟨0, _⟩ => show win0_3.index t (0 : Fin 3) * 256 + 1 * a.val = t.val * 256 + a.val; omega
  | ⟨1, _⟩ => show win0_3.index t (1 : Fin 3) * 32 + 1 * d.val = d.val; omega
  | ⟨2, _⟩ => show win0_3.index t (2 : Fin 3) * 128 + 1 * k.val = k.val; omega

theorem emb1 (t : Fin cfg0.N) (j : S32x32x128.Idx) : ((cfg0.win 1).blk t).view.emb j = j := by
  obtain ⟨e0, e1, e2⟩ := index1 t
  funext a; apply Fin.ext
  match a with
  | ⟨0, _⟩ => show win0_1.index t (0 : Fin 3) * 32 + 1 * (j 0).val = (j 0).val; omega
  | ⟨1, _⟩ => show win0_1.index t (1 : Fin 3) * 32 + 1 * (j 1).val = (j 1).val; omega
  | ⟨2, _⟩ => show win0_1.index t (2 : Fin 3) * 128 + 1 * (j 2).val = (j 2).val; omega

theorem emb2 (t : Fin cfg0.N) (j : S32x128.Idx) : ((cfg0.win 2).blk t).view.emb j = j := by
  obtain ⟨e0, e1⟩ := index2 t
  funext a; apply Fin.ext
  match a with
  | ⟨0, _⟩ => show win0_2.index t (0 : Fin 2) * 32 + 1 * (j 0).val = (j 0).val; omega
  | ⟨1, _⟩ => show win0_2.index t (1 : Fin 2) * 128 + 1 * (j 1).val = (j 1).val; omega

theorem iblk0_eq (c : Dev nD) (t : Fin cfg0.N) (a : Fin 256) (d : Fin 32) (k : Fin 128) :
    iblk m c 0 t (ix3 a d k) = V m c main_arg0 (ix3 (row t a) d k) := by
  show V m c main_arg0 (((cfg0.win 0).blk t).view.emb (ix3 a d k)) = _; rw [emb0]

theorem iblk1_eq (c : Dev nD) (t : Fin cfg0.N) : iblk m c 1 t = V m c main_arg1 := by
  funext j; show V m c main_arg1 (((cfg0.win 1).blk t).view.emb j) = V m c main_arg1 j; rw [emb1]

theorem iblk2_eq (c : Dev nD) (t : Fin cfg0.N) : iblk m c 2 t = V m c main_arg2 := by
  funext j; show V m c main_arg2 (((cfg0.win 2).blk t).view.emb j) = V m c main_arg2 j; rw [emb2]

/-- What a point writes back is its block of `whole`. -/
theorem flushed3_eq (c : Dev nD) (t : Fin cfg0.N) :
    (dats m 0 c).flushed 3 t
      = ((cfg0.win 3).blk t).view.read (Elt F) (whole (V m c main_arg0) (V m c main_arg1) (V m c main_arg2)) := by
  rw [flushed3, out_eq, iblk1_eq, iblk2_eq]
  funext j
  obtain ⟨a, d, k, rfl⟩ : ∃ (a : Fin 256) (d : Fin 32) (k : Fin 128), j = ix3 a d k := ⟨j 0, j 1, j 2, eq_ix3 j⟩
  show block (iblk m c 0 t) _ _ (ix3 a d k) = whole _ _ _ (((cfg0.win 3).blk t).view.emb (ix3 a d k))
  rw [emb3]
  show FloatOps.subf (acc _ _ a d k _) _ = FloatOps.subf (accW _ _ (row t a) d k _) _
  rw [acc_eq (V m c main_arg0) (iblk m c 0 t) (V m c main_arg1) a (row t a) (fun e k => iblk0_eq m c t a e k)]
  rfl

/-- Every row of the batch lies in a block. -/
theorem covered3 (i : S16384x32x128.Idx) :
    ∃ t : Fin cfg0.N, (cfg0.win 3).flush t = true ∧ i ∈ ((cfg0.win 3).blk t).view.set := by
  have h : (i 0).val < 16384 := (i 0).isLt
  have ht : (i 0).val / 256 < cfg0.N := by show _ < 64; omega
  have e : i = ix3 (row ⟨(i 0).val / 256, ht⟩ ⟨(i 0).val % 256, by omega⟩) (i 1) (i 2) := by
    funext j; apply Fin.ext
    match j with
    | ⟨0, _⟩ => show (i 0).val = (i 0).val / 256 * 256 + (i 0).val % 256; omega
    | ⟨1, _⟩ => rfl
    | ⟨2, _⟩ => rfl
  refine ⟨⟨(i 0).val / 256, ht⟩, flush0_3 _, ?_⟩
  have hm := ((cfg0.win 3).blk ⟨(i 0).val / 256, ht⟩).view.emb_mem_set
    (show ((cfg0.win 3).xblock (cfg0.grid.coords ⟨(i 0).val / 256, ht⟩)).Idx from ix3 (⟨(i 0).val % 256, by omega⟩ : Fin 256) (i 1) (i 2))
  exact (congrArg (· ∈ ((cfg0.win 3).blk ⟨(i 0).val / 256, ht⟩).view.set) ((emb3 ⟨(i 0).val / 256, ht⟩ _ (i 1) (i 2)).trans e.symm)).mp hm

theorem final3 (c : Dev nD) : (dats m 0 c).arrAt 3 cfg0.N
    = whole (m ((c : Thread nD τ).loc main_arg0)) (m ((c : Thread nD τ).loc main_arg1)) (m ((c : Thread nD τ).loc main_arg2)) :=
  ((dats m 0 c).arrAt_eq_of_cover 3 (whole (V m c main_arg0) (V m c main_arg1) (V m c main_arg2)) (fun t _ => flushed3_eq m c t)
    covered3).trans (by rw [V_main_arg0, V_main_arg1, V_main_arg2])

/-- The run, its result array the function `whole` of the arguments. -/
theorem run : θ_run defs (onTc (τ := τ) (main (F := F))) ⟨m, fun _ => 0, ρ⟩ fun r => ∀ c : Dev nD,
      r.2.mem ((c : Thread nD τ).loc main_v0)
        = whole (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.WhitenValue

end
-- ==== Proof.WhitenSum.lean ====
/- The sums agree: at the ideal instance, under the precondition that wt[e, d] is zero for e > d, the kernel's sum up to
   the end of d's group of eight is the reference's sum over all 32 terms. -/
module

public import proofs.«01_k».proof.Proof.WhitenRun
public import proofs.«01_k».proof.Proof.Gen.WhitenReferenceIdeal.Run
public import proofs.«01_k».proof.Defs

@[expose] public section

noncomputable section

namespace Cert.WhitenValue

open Cert.WhitenIdeal Idealize.ShloMosaic Idealize.ShloMosaic.TcCoe Idealize.ShloMosaic.Tactic Idealize.SL.Sem

/-- The reference's result, as a function of the arguments. -/
def plain (x : Vec Ideal S16384x32x128 .f32) (wt : Vec Ideal S32x32x128 .f32) (wmu : Vec Ideal S32x128 .f32) :
    Vec Ideal S16384x32x128 .f32 := fun i =>
  (∑ e : Fin 32, (x (ix3 (i 0) e (i 2)) : EReal) * wt (ix3 e (i 1) (i 2))) - wmu (ix2 (i 1) (i 2))

/-- What the reference computes, read at an index. -/
theorem ref_eq (x : Vec Ideal S16384x32x128 .f32) (wt : Vec Ideal S32x32x128 .f32) (wmu : Vec Ideal S32x128 .f32) (h1 h2 h3) :
    subf (F := Ideal) (φ := .f32) (transpose S16384x32x128 [2, 1, 0] (Host.dotGeneral (φ₁ := .f32) (φ₂ := .f32) Cert.WhitenReferenceIdeal.dot_S32x32x128_S16384x32x128_S128x32x16384_0_1_1_0_2_2 none wt x) h1)
      (broadcastInDim S16384x32x128 ![0, 1, 2] h2 (broadcastInDim Cert.WhitenReferenceIdeal.S1x32x128 ![1, 2] h3 wmu)) = (plain x wt wmu : FVec Ideal S16384x32x128 .f32) := by
  funext i
  obtain ⟨b, d, k, rfl⟩ : ∃ (b : Fin 16384) (d : Fin 32) (k : Fin 128), i = ix3 b d k := ⟨i 0, i 1, i 2, eq_ix3 i⟩
  pointwise
  show _ = (∑ e : Fin 32, (x (ix3 b e k) : EReal) * wt (ix3 e d k)) - wmu (ix2 d k)
  exact congrArg (· - wmu (ix2 d k)) (Finset.sum_congr rfl fun e _ => mul_comm _ _)

/-- The running sum is the sum of the first products. -/
theorem accW_eq (x : Vec Ideal S16384x32x128 .f32) (wt : Vec Ideal S32x32x128 .f32) (b : Fin 16384) (d : Fin 32) (k : Fin 128) (n : ℕ) :
    accW x wt b d k n = ∑ e ∈ Finset.range (n + 1), (x (ix3 b (Fin.ofNat 32 e) k) : EReal) * wt (ix3 (Fin.ofNat 32 e) d k) := by
  induction n with
  | zero => rw [Finset.sum_range_one]; rfl
  | succ n ih => rw [Finset.sum_range_succ, ← ih]; rfl

/-- Entries of wt below the diagonal being zero, the terms past the group of eight add nothing. -/
theorem whole_eq (x : Vec Ideal S16384x32x128 .f32) (wt : Vec Ideal S32x32x128 .f32) (wmu : Vec Ideal S32x128 .f32)
    (h : ∀ (e d : Fin 32) (k : Fin 128), e.val ≤ d.val ∨ (wt (ix3 e d k) : EReal) = 0) : whole x wt wmu = plain x wt wmu := by
  funext i
  obtain ⟨b, d, k, rfl⟩ : ∃ (b : Fin 16384) (d : Fin 32) (k : Fin 128), i = ix3 b d k := ⟨i 0, i 1, i 2, eq_ix3 i⟩
  show (accW x wt b d k (d.val / 8 * 8 + 7) : EReal) - wmu (ix2 d k) = _ - wmu (ix2 d k)
  refine congrArg (· - wmu (ix2 d k)) ?_
  rw [accW_eq]
  show _ = ∑ e : Fin 32, (x (ix3 b e k) : EReal) * wt (ix3 e d k)
  have e1 : ∑ e : Fin 32, (x (ix3 b e k) : EReal) * wt (ix3 e d k)
      = ∑ e ∈ Finset.range 32, (x (ix3 b (Fin.ofNat 32 e) k) : EReal) * wt (ix3 (Fin.ofNat 32 e) d k) := by
    rw [Finset.sum_range]
    refine Finset.sum_congr rfl fun e _ => ?_
    have : Fin.ofNat 32 e.val = e := Fin.ext (Nat.mod_eq_of_lt e.isLt)
    rw [this]
  rw [e1]
  have hd := d.isLt
  refine Finset.sum_subset (Finset.range_subset_range.2 (by omega)) fun e he hn => ?_
  rw [Finset.mem_range] at he hn
  rcases h (Fin.ofNat 32 e) d k with hle | h0
  · have : (Fin.ofNat 32 e).val = e := Nat.mod_eq_of_lt he
    omega
  · rw [h0, mul_zero]

theorem le_of_cmp : ∀ e d : Fin 32, IntOp.ori (IntOp.cmpi .sle (BitVec.ofNat 32 e.val) (BitVec.ofNat 32 d.val)) (BitVec.ofBool false) = 1#1 →
    e.val ≤ d.val := by
  decide +kernel

/-- The precondition, read at an index. -/
theorem lower [Cert.Pre_triangular.Facts] (x : Vec Ideal S16384x32x128 .f32) (wt : Vec Ideal S32x32x128 .f32) (wmu : Vec Ideal S32x128 .f32)
    (h : Cert.Pre_triangular.fn (F := Ideal) x wt wmu = fun _ => 1#1) (e d : Fin 32) (k : Fin 128) :
    e.val ≤ d.val ∨ (wt (ix3 e d k) : EReal) = 0 := by
  have h' := congrFun h (ix3 e d k)
  pointwise [Cert.Pre_triangular.fn] at h'
  by_cases hz : (wt (ix3 e d k) : EReal) = 0
  · exact .inr hz
  · rw [decide_eq_false hz] at h'
    exact .inl (le_of_cmp e d h')

/-- The claim: kernel and reference leave the same result, under the precondition. -/
theorem algebraic [Cert.Pre_triangular.Facts] : Cert.algebraic_WhitenIdeal_WhitenReferenceIdeal_pre_triangular := by
  intro m g m' g' hpre hargs
  refine ⟨fun c => plain (m ((c.tc : Thread nD τ).loc main_arg0)) (m ((c.tc : Thread nD τ).loc main_arg1)) (m ((c.tc : Thread nD τ).loc main_arg2)), ?_, ?_⟩
  · refine (θ_run defs _ _).mono (fun r h c => ⟨(h c).1.trans (whole_eq _ _ _ fun e d k => lower _ _ _ (hpre c) e d k), (h c).2⟩) (run m g)
  · refine (θ_run Cert.WhitenReferenceIdeal.defs _ _).mono (fun r h c => ⟨(h c).1.trans ?_, (h c).2⟩) (Cert.WhitenReferenceIdeal.Value.run m' g')
    obtain ⟨h0, h1, h2⟩ := hargs c
    rw [h0, h1, h2]
    exact ref_eq _ _ _ _ _ _

end Cert.WhitenValue

end
-- ==== Proof.lean ====
/- The claim, put together: each of the three calls of the kernel (Stats, Factor, Whiten) runs to its end without
   fault, with its arguments unchanged and every semaphore counter back at zero; each ideal program is the call itself
   over the extended reals; Stats holds the sums and the scatter of the two halves of the batch (`StatsSum`);
   Factor holds the new mean, the inverse of the new covariance's Cholesky factor and their product (`FactorValue`); and Whiten holds W x - W mu (`WhitenSum`), where W is lower triangular. -/
module

public import proofs.«01_k».proof.Defs
public import proofs.«01_k».proof.Proof.Gen.Stats
public import proofs.«01_k».proof.Proof.Gen.StatsIdeal
public import proofs.«01_k».proof.Proof.Gen.StatsIdeal.Skeleton
public import proofs.«01_k».proof.Proof.Gen.StatsIdeal.Launch
public import proofs.«01_k».proof.Proof.Gen.StatsIdeal.Points
public import proofs.«01_k».proof.Proof.Gen.StatsIdeal.Frame
public import proofs.«01_k».proof.Proof.Gen.Factor
public import proofs.«01_k».proof.Proof.Gen.Factor.Skeleton
public import proofs.«01_k».proof.Proof.Gen.Factor.Launch
public import proofs.«01_k».proof.Proof.Gen.Factor.Points
public import proofs.«01_k».proof.Proof.Gen.Factor.Frame
public import proofs.«01_k».proof.Proof.Gen.FactorIdeal
public import proofs.«01_k».proof.Proof.Gen.FactorIdeal.Skeleton
public import proofs.«01_k».proof.Proof.Gen.FactorIdeal.Launch
public import proofs.«01_k».proof.Proof.Gen.FactorIdeal.Points
public import proofs.«01_k».proof.Proof.Gen.FactorIdeal.Frame
public import proofs.«01_k».proof.Proof.Gen.Whiten
public import proofs.«01_k».proof.Proof.Gen.Whiten.Skeleton
public import proofs.«01_k».proof.Proof.Gen.Whiten.Launch
public import proofs.«01_k».proof.Proof.Gen.Whiten.Points
public import proofs.«01_k».proof.Proof.Gen.Whiten.Frame
public import proofs.«01_k».proof.Proof.Gen.WhitenIdeal
public import proofs.«01_k».proof.Proof.Gen.WhitenIdeal.Skeleton
public import proofs.«01_k».proof.Proof.Gen.WhitenIdeal.Launch
public import proofs.«01_k».proof.Proof.Gen.WhitenIdeal.Points
public import proofs.«01_k».proof.Proof.Gen.WhitenIdeal.Frame
public import proofs.«01_k».proof.Proof.Gen.StatsReferenceIdeal.Run
public import proofs.«01_k».proof.Proof.Gen.FactorReferenceIdeal.Run
public import proofs.«01_k».proof.Proof.Gen.WhitenIdeal.Value
public import proofs.«01_k».proof.Proof.Gen.WhitenReferenceIdeal.Run
public import Idealize.ShloMosaic.Adequacy
public import Idealize.ShloMosaic.Init
public import proofs.«01_k».proof.Proof.StatsSum
public import proofs.«01_k».proof.Proof.StatsBits
public import proofs.«01_k».proof.Proof.FactorValue
public import proofs.«01_k».proof.Proof.WhitenSum

@[expose] public section

noncomputable section

namespace Cert.Proof

open Idealize.ShloMosaic Idealize.SL.Sem

/-- The reference of Stats leaves its argument unchanged and every semaphore counter at zero: it has no semaphore. -/
theorem statsReference_quiescent : Cert.quiescent_StatsReferenceIdeal := fun m ρ _ =>
  (θ_run Cert.StatsReferenceIdeal.defs _ _).mono (fun r h => ⟨fun c => (h c).2.2, sem_eq_zero_of_no_sems (by decide) r.2⟩)
    (Cert.StatsReferenceIdeal.Value.run m ρ)

/-- The reference of Factor leaves its five arguments unchanged and every semaphore counter at zero. -/
theorem factorReference_quiescent : Cert.quiescent_FactorReferenceIdeal := fun m ρ _ =>
  (θ_run Cert.FactorReferenceIdeal.defs _ _).mono (fun r h => ⟨fun c => (h c).2.2.2, sem_eq_zero_of_no_sems (by decide) r.2⟩)
    (Cert.FactorReferenceIdeal.Value.run m ρ)

/-- The reference of Whiten leaves its three arguments unchanged and every semaphore counter at zero. -/
theorem whitenReference_quiescent : Cert.quiescent_WhitenReferenceIdeal := fun m ρ _ =>
  (θ_run Cert.WhitenReferenceIdeal.defs _ _).mono (fun r h => ⟨fun c => (h c).2, sem_eq_zero_of_no_sems (by decide) r.2⟩)
    (Cert.WhitenReferenceIdeal.Value.run m ρ)

/-- The triangle that the claim on Whiten's values assumes is a predicate whose shapes fit. -/
theorem triangular_facts : Cert.Pre_triangular.Facts := ⟨by decide⟩

/-- The mask of the entries that Stats writes is a predicate whose shapes fit. -/
theorem written_facts : Cert.On_written.Facts := ⟨by decide, by decide⟩

/-- Everything that the certificate claims. -/
theorem claim : Cert.Claim :=
  ⟨Cert.Stats.Gen.facts, Cert.StatsIdeal.Gen.facts, Cert.StatsReferenceIdeal.Gen.facts, Cert.Factor.Gen.facts,
    Cert.FactorIdeal.Gen.facts, Cert.FactorReferenceIdeal.Gen.facts, Cert.Whiten.Gen.facts, Cert.WhitenIdeal.Gen.facts,
    Cert.WhitenReferenceIdeal.Gen.facts, triangular_facts, written_facts,
    Cert.StatsValue.words_quiescent,
    fun m ρ _ => Cert.StatsValue.quiescent m ρ,
    statsReference_quiescent,
    fun m ρ _ => Cert.Factor.Gen.frame m ρ,
    fun m ρ _ => Cert.FactorIdeal.Gen.frame m ρ,
    factorReference_quiescent,
    fun m ρ _ => Cert.Whiten.Gen.frame m ρ,
    fun m ρ _ => Cert.WhitenIdeal.Gen.frame m ρ,
    fun m ρ _ => Cert.WhitenIdeal.Gen.frame m ρ,
    whitenReference_quiescent,
    fun m ρ _ => whitenReference_quiescent m ρ trivial,
    trivial,
    letI := written_facts; Cert.StatsValue.algebraic,
    trivial,
    Cert.FactorValue.algebraic,
    trivial,
    letI := triangular_facts; Cert.WhitenValue.algebraic⟩

end Cert.Proof

end
